-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x2048 : Shape := ⟨3, ![2, 4096, 2048]⟩
abbrev S16x2048 : Shape := ⟨2, ![16, 2048]⟩
abbrev S_ : Shape := ⟨0, ![]⟩

class Facts : Prop where
  bcast_S_S2x4096x2048 : S_.BroadcastsInDim S2x4096x2048 (![] : Fin 0 → Fin S2x4096x2048.rank)
  bcast_S_S16x2048 : S_.BroadcastsInDim S16x2048 (![] : Fin 0 → Fin S16x2048.rank)

variable [Facts]

def fn {F : FTy → Type} [FloatOps F] (main_arg0 : FVec F S2x4096x2048 .f32) (main_arg1 : FVec F S16x2048 .f32) : IVec S2x4096x2048 1 × IVec S16x2048 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  (main_v2, main_v5)
-- ==== Kernel.lean ====
abbrev S2x4096x2048 : Shape := ⟨3, ![2, 4096, 2048]⟩
abbrev S16x2048 : Shape := ⟨2, ![16, 2048]⟩
abbrev S8192x2048 : Shape := ⟨2, ![8192, 2048]⟩
abbrev S2048x16 : Shape := ⟨2, ![2048, 16]⟩
abbrev S8192x16 : Shape := ⟨2, ![8192, 16]⟩
abbrev S1x1 : Shape := ⟨2, ![1, 1]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1024x16 : Shape := ⟨2, ![1024, 16]⟩
abbrev S16x8192 : Shape := ⟨2, ![16, 8192]⟩
abbrev S8192 : Shape := ⟨1, ![8192]⟩
abbrev S1x8192 : Shape := ⟨2, ![1, 8192]⟩
abbrev S16 : Shape := ⟨1, ![16]⟩
abbrev S16x1 : Shape := ⟨2, ![16, 1]⟩
abbrev S1x16x1 : Shape := ⟨3, ![1, 16, 1]⟩
abbrev S1x1x1 : Shape := ⟨3, ![1, 1, 1]⟩
abbrev S1x16x8192 : Shape := ⟨3, ![1, 16, 8192]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S16x2048, .f32⟩
  | .hbm, ⟨2, _⟩ => ⟨S8192x2048, .f32⟩
  | .hbm, ⟨3, _⟩ => ⟨S2048x16, .f32⟩
  | .hbm, ⟨4, _⟩ => ⟨S8192x16, .f32⟩
  | .hbm, ⟨5, _⟩ => ⟨S8192x16, .f32⟩
  | .hbm, ⟨6, _⟩ => ⟨S1x1, .f32⟩
  | .hbm, ⟨7, _⟩ => ⟨S_, .f32⟩
  | .local _ .vmem, ⟨0, _⟩ => ⟨S2048x16, .f32⟩
  | .local _ .vmem, ⟨1, _⟩ => ⟨S8192x16, .f32⟩
  | .local _ .vmem, ⟨2, _⟩ => ⟨S8192x16, .f32⟩
  | .local _ .vmem, ⟨3, _⟩ => ⟨S1x1, .f32⟩
  | .local _ .vmem, ⟨4, _⟩ => ⟨S2x1024x2048, .f32⟩
  | .local _ .vmem, ⟨5, _⟩ => ⟨S8192x16, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_5 : BitVec 32 := 0#32
  let c8_i32 : BitVec 32 := 8#32
  let v5 : BitVec 32 := Scalar.addi c0_i32_5 c8_i32
  let c1_i32 : BitVec 32 := 1#32
  ⟨c0_i32_5, v5, c1_i32⟩
def k0_cond1 (k0_t1 : Fin k0_t1_loop.trips) : BitVec 1 :=
  let c0_i32_5 : BitVec 32 := 0#32
  let c1_i32 : BitVec 32 := 1#32
  let arg8 : BitVec 32 := Scf.iv c0_i32_5 c1_i32 k0_t1
  let c1_i32_42 : BitVec 32 := 1#32
  let v111 : BitVec 32 := Scalar.addi arg8 c1_i32_42
  let c8_i32_43 : BitVec 32 := 8#32
  let v112 : BitVec 1 := Scalar.cmpi .slt v111 c8_i32_43
  let v113 : BitVec 32 := Scalar.extui v112
  let c0_i32_44 : BitVec 32 := 0#32
  let v114 : BitVec 1 := Scalar.cmpi .ne v113 c0_i32_44
  v114

def k0_off1 (k0_t1 : Fin k0_t1_loop.trips) : Fin 1 → Nat :=
  let c0_i32_5 : BitVec 32 := 0#32
  let c1_i32 : BitVec 32 := 1#32
  let arg8 : BitVec 32 := Scf.iv c0_i32_5 c1_i32 k0_t1
  let c1_i32_40 : BitVec 32 := 1#32
  let v109 : BitVec 32 := Scalar.addi arg8 c1_i32_40
  let c2_i32_41 : BitVec 32 := 2#32
  let v110 : BitVec 32 := Scalar.remsi v109 c2_i32_41
  ![v110.toNat]
def k0_off2 (k0_t1 : Fin k0_t1_loop.trips) : Fin 3 → Nat :=
  let c0_i32_5 : BitVec 32 := 0#32
  let c1_i32 : BitVec 32 := 1#32
  let arg8 : BitVec 32 := Scf.iv c0_i32_5 c1_i32 k0_t1
  let c1_i32_40 : BitVec 32 := 1#32
  let v109 : BitVec 32 := Scalar.addi arg8 c1_i32_40
  let c2_i32_41 : BitVec 32 := 2#32
  let v110 : BitVec 32 := Scalar.remsi v109 c2_i32_41
  let c0_i32_57 : BitVec 32 := 0#32
  let c0_i32_58 : BitVec 32 := 0#32
  ![v110.toNat, 0, 0]
def k0_off3 (k0_t1 : Fin k0_t1_loop.trips) : Fin 2 → Nat :=
  let c0_i32_5 : BitVec 32 := 0#32
  let c1_i32 : BitVec 32 := 1#32
  let arg8 : BitVec 32 := Scf.iv c0_i32_5 c1_i32 k0_t1
  let c1_i32_55 : BitVec 32 := 1#32
  let v132 : BitVec 32 := Scalar.addi arg8 c1_i32_55
  let c1024_i32_56 : BitVec 32 := 1024#32
  let v133 : BitVec 32 := Scalar.muli v132 c1024_i32_56
  let c0_i32_59 : BitVec 32 := 0#32
  ![v133.toNat, 0]
def k0_off4 (k0_t1 : Fin k0_t1_loop.trips) : Fin 1 → Nat :=
  let c0_i32_5 : BitVec 32 := 0#32
  let c1_i32 : BitVec 32 := 1#32
  let arg8 : BitVec 32 := Scf.iv c0_i32_5 c1_i32 k0_t1
  let c2_i32 : BitVec 32 := 2#32
  let v108 : BitVec 32 := Scalar.remsi arg8 c2_i32
  ![v108.toNat]
def k0_off5 (k0_t1 : Fin k0_t1_loop.trips) : Fin 3 → Nat :=
  let c0_i32_5 : BitVec 32 := 0#32
  let c1_i32 : BitVec 32 := 1#32
  let arg8 : BitVec 32 := Scf.iv c0_i32_5 c1_i32 k0_t1
  let c2_i32 : BitVec 32 := 2#32
  let v108 : BitVec 32 := Scalar.remsi arg8 c2_i32
  let c0_i32_45 : BitVec 32 := 0#32
  let c0_i32_46 : BitVec 32 := 0#32
  ![v108.toNat, 0, 0]
def k0_off6 (k0_t1 : Fin k0_t1_loop.trips) : Fin 2 → Nat :=
  let c0_i32_5 : BitVec 32 := 0#32
  let c1_i32 : BitVec 32 := 1#32
  let arg8 : BitVec 32 := Scf.iv c0_i32_5 c1_i32 k0_t1
  let c1024_i32 : BitVec 32 := 1024#32
  let v115 : BitVec 32 := Scalar.muli arg8 c1024_i32
  let c0_i32_47 : BitVec 32 := 0#32
  ![v115.toNat, 0]
def k0_off7 (k0_t1 : Fin k0_t1_loop.trips) : Fin 3 → Nat :=
  let c0_i32_5 : BitVec 32 := 0#32
  let c1_i32 : BitVec 32 := 1#32
  let arg8 : BitVec 32 := Scf.iv c0_i32_5 c1_i32 k0_t1
  let c2_i32 : BitVec 32 := 2#32
  let v108 : BitVec 32 := Scalar.remsi arg8 c2_i32
  let v121 : Index := Scalar.indexCast v108
  let c0_48 : Index := 0#32
  let c0_49 : Index := 0#32
  ![v121.toNat, 0, 0]
def k0_off8 (k0_t1 : Fin k0_t1_loop.trips) : Fin 2 → Nat :=
  let c0_i32_5 : BitVec 32 := 0#32
  let c1_i32 : BitVec 32 := 1#32
  let arg8 : BitVec 32 := Scf.iv c0_i32_5 c1_i32 k0_t1
  let c1024_i32_53 : BitVec 32 := 1024#32
  let v127 : BitVec 32 := Scalar.muli arg8 c1024_i32_53
  let v128 : Index := Scalar.indexCast v127
  let c0_54 : Index := 0#32
  ![v128.toNat, 0]
abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x4096x2048 : Shape := ⟨3, ![2, 4096, 2048]⟩
abbrev S16x2048 : Shape := ⟨2, ![16, 2048]⟩
abbrev S8192x2048 : Shape := ⟨2, ![8192, 2048]⟩
abbrev S2048x16 : Shape := ⟨2, ![2048, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S16 : Shape := ⟨1, ![16]⟩
abbrev S1x16 : Shape := ⟨2, ![1, 16]⟩

abbrev nBuf : Space → Nat
  | .hbm => 222
  | .vmem => 0
  | .smem => 0
  | _ => 0

abbrev hbmTy0_0 (i : Nat) : BufTy := match i % 128 with
  | 0 => ⟨S2x4096x2048, .f32⟩
  | 1 => ⟨S16x2048, .f32⟩
  | 2 => ⟨S8192x2048, .f32⟩
  | 3 => ⟨S2048x16, .f32⟩
  | 4 => ⟨S8192x16, .f32⟩
  | 5 => ⟨S_, .f32⟩
  | 6 => ⟨S8192, .f32⟩
  | 7 => ⟨S_, .f32⟩
  | 8 => ⟨S8192, .f32⟩
  | 9 => ⟨S8192, .f32⟩
  | 10 => ⟨S8192x1, .f32⟩
  | 11 => ⟨S8192x16, .f32⟩
  | 12 => ⟨S8192x16, .f32⟩
  | 13 => ⟨S8192x16, .f32⟩
  | 14 => ⟨S_, .f32⟩
  | 15 => ⟨S8192, .f32⟩
  | 16 => ⟨S8192x1, .f32⟩
  | 17 => ⟨S8192x16, .f32⟩
  | 18 => ⟨S8192x16, .f32⟩
  | 19 => ⟨S8192x2, .f32⟩
  | 20 => ⟨S8192x2, .i32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S8192x2, .f32⟩
  | 28 => ⟨S8192x2, .f32⟩
  | 29 => ⟨S_, .f32⟩
  | 30 => ⟨S8192x16, .f32⟩
  | 31 => ⟨S_, .f32⟩
  | 32 => ⟨S16, .f32⟩
  | 33 => ⟨S8192, .i32⟩
  | 34 => ⟨S8192x1, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192, .f32⟩
  | 45 => ⟨S_, .f32⟩
  | 46 => ⟨S8192, .f32⟩
  | 47 => ⟨S8192, .i1⟩
  | 48 => ⟨S_, .f32⟩
  | 49 => ⟨S16, .f32⟩
  | 50 => ⟨S8192, .f32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S16, .f32⟩
  | 60 => ⟨S16, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x1, .i32⟩
  | 77 => ⟨S8192x2, .i32⟩
  | 78 => ⟨S8192, .f32⟩
  | 79 => ⟨S8192x1, .f32⟩
  | 80 => ⟨S8192, .f32⟩
  | 81 => ⟨S8192, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S8192x1, .i32⟩
  | 98 => ⟨S8192x2, .i32⟩
  | 99 => ⟨S8192x16, .f32⟩
  | 100 => ⟨S8192x1, .i32⟩
  | 101 => ⟨S8192, .i32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192, .f32⟩
  | 111 => ⟨S_, .f32⟩
  | 112 => ⟨S8192, .f32⟩
  | 113 => ⟨S8192, .i1⟩
  | 114 => ⟨S_, .f32⟩
  | 115 => ⟨S16, .f32⟩
  | 116 => ⟨S8192, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S16, .f32⟩
  | 126 => ⟨S16, .f32⟩
  | 127 => ⟨S_, .i32⟩
  | _ => ⟨S2x4096x2048, .f32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x1, .i32⟩
  | 15 => ⟨S8192x2, .i32⟩
  | 16 => ⟨S8192, .f32⟩
  | 17 => ⟨S8192x1, .f32⟩
  | 18 => ⟨S8192, .f32⟩
  | 19 => ⟨S8192, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x1, .i32⟩
  | 36 => ⟨S8192x2, .i32⟩
  | 37 => ⟨S8192x16, .f32⟩
  | 38 => ⟨S_, .f32⟩
  | 39 => ⟨S8192, .f32⟩
  | 40 => ⟨S_, .f32⟩
  | 41 => ⟨S8192, .f32⟩
  | 42 => ⟨S8192, .i1⟩
  | 43 => ⟨S_, .f32⟩
  | 44 => ⟨S16, .f32⟩
  | 45 => ⟨S16, .f32⟩
  | 46 => ⟨S16, .i32⟩
  | 47 => ⟨S_, .f32⟩
  | 48 => ⟨S_, .i32⟩
  | 49 => ⟨S_, .f32⟩
  | 50 => ⟨S_, .i32⟩
  | 51 => ⟨S16, .i32⟩
  | 52 => ⟨S16, .i32⟩
  | 53 => ⟨S16, .i1⟩
  | 54 => ⟨S8192x1, .i1⟩
  | 55 => ⟨S1x16, .i1⟩
  | 56 => ⟨S8192x16, .i1⟩
  | 57 => ⟨S8192x16, .i1⟩
  | 58 => ⟨S8192x16, .i1⟩
  | 59 => ⟨S_, .f32⟩
  | 60 => ⟨S_, .f32⟩
  | 61 => ⟨S8192x16, .f32⟩
  | 62 => ⟨S8192x16, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S8192x16, .f32⟩
  | 70 => ⟨S8192x16, .f32⟩
  | 71 => ⟨S8192x16, .f32⟩
  | 72 => ⟨S_, .f32⟩
  | 73 => ⟨S_, .f32⟩
  | 74 => ⟨S_, .f32⟩
  | 75 => ⟨S_, .f32⟩
  | 76 => ⟨S_, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_11 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_13 : Ref sig .tc := ⟨.hbm, 68, rfl⟩
abbrev main_v49 : Ref sig .tc := ⟨.hbm, 69, rfl⟩
abbrev main_v50 : Ref sig .tc := ⟨.hbm, 70, rfl⟩
abbrev main_c_14 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_c_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_17 : Ref sig .tc := ⟨.hbm, 89, rfl⟩
abbrev main_v66 : Ref sig .tc := ⟨.hbm, 90, rfl⟩
abbrev main_v67 : Ref sig .tc := ⟨.hbm, 91, rfl⟩
abbrev main_c_18 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_19 : Ref sig .tc := ⟨.hbm, 102, rfl⟩
abbrev main_v77 : Ref sig .tc := ⟨.hbm, 103, rfl⟩
abbrev main_v78 : Ref sig .tc := ⟨.hbm, 104, rfl⟩
abbrev main_c_20 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_v85 : Ref sig .tc := ⟨.hbm, 113, rfl⟩
abbrev main_cst_22 : Ref sig .tc := ⟨.hbm, 114, rfl⟩
abbrev main_v86 : Ref sig .tc := ⟨.hbm, 115, rfl⟩
abbrev main_v87 : Ref sig .tc := ⟨.hbm, 116, rfl⟩
abbrev main_c_23 : Ref sig .tc := ⟨.hbm, 117, rfl⟩
abbrev main_v88 : Ref sig .tc := ⟨.hbm, 118, rfl⟩
abbrev main_v89 : Ref sig .tc := ⟨.hbm, 119, rfl⟩
abbrev main_c_24 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_25 : Ref sig .tc := ⟨.hbm, 127, rfl⟩
abbrev main_v96 : Ref sig .tc := ⟨.hbm, 128, rfl⟩
abbrev main_v97 : Ref sig .tc := ⟨.hbm, 129, rfl⟩
abbrev main_c_26 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_27 : Ref sig .tc := ⟨.hbm, 134, rfl⟩
abbrev main_v101 : Ref sig .tc := ⟨.hbm, 135, rfl⟩
abbrev main_v102 : Ref sig .tc := ⟨.hbm, 136, rfl⟩
abbrev main_c_28 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_29 : Ref sig .tc := ⟨.hbm, 148, rfl⟩
abbrev main_v113 : Ref sig .tc := ⟨.hbm, 149, rfl⟩
abbrev main_v114 : Ref sig .tc := ⟨.hbm, 150, rfl⟩
abbrev main_c_30 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_31 : Ref sig .tc := ⟨.hbm, 155, rfl⟩
abbrev main_v118 : Ref sig .tc := ⟨.hbm, 156, rfl⟩
abbrev main_v119 : Ref sig .tc := ⟨.hbm, 157, rfl⟩
abbrev main_c_32 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_33 : Ref sig .tc := ⟨.hbm, 166, rfl⟩
abbrev main_v127 : Ref sig .tc := ⟨.hbm, 167, rfl⟩
abbrev main_cst_34 : Ref sig .tc := ⟨.hbm, 168, rfl⟩
abbrev main_v128 : Ref sig .tc := ⟨.hbm, 169, rfl⟩
abbrev main_v129 : Ref sig .tc := ⟨.hbm, 170, rfl⟩
abbrev main_cst_35 : Ref sig .tc := ⟨.hbm, 171, rfl⟩
abbrev main_v130 : Ref sig .tc := ⟨.hbm, 172, rfl⟩
abbrev main_v131 : Ref sig .tc := ⟨.hbm, 173, rfl⟩
abbrev main_call2_v0 : Ref sig .tc := ⟨.hbm, 174, rfl⟩
abbrev main_call2_cst : Ref sig .tc := ⟨.hbm, 175, rfl⟩
abbrev main_call2_c : Ref sig .tc := ⟨.hbm, 176, rfl⟩
abbrev main_call2_v1_0 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_36 : Ref sig .tc := ⟨.hbm, 187, rfl⟩
abbrev main_call3_v0 : Ref sig .tc := ⟨.hbm, 188, rfl⟩
abbrev main_call3_v1 : Ref sig .tc := ⟨.hbm, 189, rfl⟩
abbrev main_v141 : Ref sig .tc := ⟨.hbm, 190, rfl⟩
abbrev main_cst_37 : Ref sig .tc := ⟨.hbm, 191, rfl⟩
abbrev main_v142 : Ref sig .tc := ⟨.hbm, 192, rfl⟩
abbrev main_v143 : Ref sig .tc := ⟨.hbm, 193, rfl⟩
abbrev main_cst_38 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_39 : Ref sig .tc := ⟨.hbm, 200, rfl⟩
abbrev main_v149 : Ref sig .tc := ⟨.hbm, 201, rfl⟩
abbrev main_cst_40 : Ref sig .tc := ⟨.hbm, 202, rfl⟩
abbrev main_v150 : Ref sig .tc := ⟨.hbm, 203, rfl⟩
abbrev main_cst_41 : Ref sig .tc := ⟨.hbm, 204, rfl⟩
abbrev main_v151 : Ref sig .tc := ⟨.hbm, 205, rfl⟩
abbrev main_cst_42 : Ref sig .tc := ⟨.hbm, 206, rfl⟩
abbrev main_v152 : Ref sig .tc := ⟨.hbm, 207, rfl⟩
abbrev main_v153 : Ref sig .tc := ⟨.hbm, 208, rfl⟩
abbrev main_cst_43 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_44 : Ref sig .tc := ⟨.hbm, 213, rfl⟩
abbrev main_v157 : Ref sig .tc := ⟨.hbm, 214, rfl⟩
abbrev main_cst_45 : Ref sig .tc := ⟨.hbm, 215, rfl⟩
abbrev main_v158 : Ref sig .tc := ⟨.hbm, 216, rfl⟩
abbrev main_cst_46 : Ref sig .tc := ⟨.hbm, 217, rfl⟩
abbrev main_v159 : Ref sig .tc := ⟨.hbm, 218, rfl⟩
abbrev main_cst_47 : Ref sig .tc := ⟨.hbm, 219, rfl⟩
abbrev main_v160 : Ref sig .tc := ⟨.hbm, 220, rfl⟩
abbrev main_v161 : Ref sig .tc := ⟨.hbm, 221, rfl⟩

abbrev nD : Nat := 1
abbrev τ : Topo := Topo.v7x

variable {F : FTy → Type} [FloatOps F]
-- ==== Proof.KernelIdeal.Trip.lean ====
/-
  The kernel's ring of two slots, and one trip of its loop.

  The body reads the tokens from HBM in eight blocks of 1024 rows. Block `k` goes into slot `k % 2` of a buffer of
  two slots, on the semaphore `k % 2`. Trip `k` starts the copy of block `k + 1` into the other slot (when there is
  such a block), waits for block `k`, multiplies it with the router's weights, and stores the 1024 rows of logits.

  Before trip `k` one slot is in flight with block `k` (after the last trip it is free) and the other is free. The
  tokens' array is lent by two half shares, one per slot, so that both copies may read it at once. The logits' buffer
  holds the right rows below `1024 * k`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.Value
public import Idealize.ShloMosaic.Lib.WritesUnit
public import Idealize.ShloMosaic.Lib.Ring
public import Idealize.ShloMosaic.Lib.Pointwise.Index
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra of the proof: the pipeline's beside the transfers' counters. -/
local notation "𝕄" => MT nD τ sig Unit (Elt F) ℕ (Pipeline.UD sig nD τ) ℕ

/-! ## Names for the slots, the semaphores and the blocks -/

/-- The tokens' array, the buffer of two slots, the logits' buffer. -/
abbrev xM : Memref sig .tc .hbm S8192x2048 .f32 := Memref.whole main_v0
abbrev ringM : Memref sig .tc .vmem S2x1024x2048 .f32 := Memref.whole cc0_scratch0
abbrev lgM : Memref sig .tc .vmem S8192x16 .f32 := Memref.whole cc0_scratch1

abbrev slotOff (s : Fin 2) : Fin 3 → Nat := ![s.val, 0, 0]
abbrev semOff (s : Fin 2) : Fin 1 → Nat := ![s.val]
abbrev blkOff (b : Fin 8) : Fin 2 → Nat := ![1024 * b.val, 0]

theorem slotOff_inb : ∀ (s : Fin 2) (a : Fin 3), slotOff s a + S1x1024x2048.size a ≤ S2x1024x2048.size a := by decide
theorem semOff_inb : ∀ (s : Fin 2) (a : Fin 1), semOff s a + S1.size a ≤ S2.size a := by decide
theorem blkOff_inb : ∀ (b : Fin 8) (a : Fin 2), blkOff b a + S1024x2048.size a ≤ S8192x2048.size a := by decide

/-- Slot `s` of the buffer. -/
def slotM (s : Fin 2) : Memref sig .tc .vmem S1024x2048 .f32 :=
  (ringM.slice (Rect.unit (s := S2x1024x2048) (slotOff s) S1x1024x2048.size (slotOff_inb s)) (fun _ => rfl)).squeeze S1024x2048 squeezes_S1x1024x2048_S1024x2048
/-- Slot `s`'s semaphore. -/
def semM (s : Fin 2) : DmaSems sig S_ := (cc0_scratch2.slice (Rect.unit (s := S2) (semOff s) S1.size (semOff_inb s))).squeeze S_ squeezes_S1_S_
/-- Block `b` of the tokens. -/
def blkM (b : Fin 8) : Memref sig .tc .hbm S1024x2048 .f32 :=
  xM.slice (Rect.unit (s := S8192x2048) (blkOff b) S1024x2048.size (blkOff_inb b)) (fun _ => rfl)

instance (s : Fin 2) : ClosedOff (slotOff s) := ⟨slotOff s, rfl⟩
instance (b : Fin 8) : ClosedOff (blkOff b) := ⟨blkOff b, rfl⟩

instance (k : Fin k0_t1_loop.trips) : ClosedOff (k0_off7 k) := ⟨slotOff (Ring.sl 2 k.val), k0_off7_eq k⟩
instance (k : Fin k0_t1_loop.trips) : ClosedOff (k0_off5 k) := ⟨slotOff (Ring.sl 2 k.val), k0_off5_eq k⟩

theorem trips_le (k : Fin k0_t1_loop.trips) : k.val < 8 := Nat.lt_of_lt_of_le k.isLt (by decide)

theorem semM_of {off : Fin 1 → Nat} {s : Fin 2} (e : off = semOff s) (hh) :
    (cc0_scratch2.slice (Rect.unit (s := S2) off S1.size hh)).squeeze S_ squeezes_S1_S_ = semM s :=
  congrArg (fun A : DmaSems sig S1 => A.squeeze S_ squeezes_S1_S_) (SemArray.slice_unit_congr _ e _ _)
theorem slotM_of {off : Fin 3 → Nat} {s : Fin 2} (e : off = slotOff s) (hh hs) :
    (ringM.slice (Rect.unit (s := S2x1024x2048) off S1x1024x2048.size hh) hs).squeeze S1024x2048 squeezes_S1x1024x2048_S1024x2048 = slotM s :=
  congrArg (fun M : Memref sig .tc .vmem S1x1024x2048 .f32 => M.squeeze S1024x2048 squeezes_S1x1024x2048_S1024x2048) (Memref.slice_unit_congr _ e _ _ _ _)
theorem blkM_of {off : Fin 2 → Nat} {b : Fin 8} (e : off = blkOff b) (hh hs) :
    xM.slice (Rect.unit (s := S8192x2048) off S1024x2048.size hh) hs = blkM b :=
  Memref.slice_unit_congr _ e _ (blkOff_inb b) _ (fun _ => rfl)

theorem off4_sem (k : Fin k0_t1_loop.trips) : k0_off4 k = semOff (Ring.sl 2 k.val) := k0_off4_eq k
theorem off5_slot (k : Fin k0_t1_loop.trips) : k0_off5 k = slotOff (Ring.sl 2 k.val) := k0_off5_eq k
theorem off6_blk (k : Fin k0_t1_loop.trips) : k0_off6 k = blkOff (Ring.bk 8 k.val) := by
  rw [k0_off6_eq k]; unfold blkOff; rw [Ring.bk_val (trips_le k)]
theorem off7_slot (k : Fin k0_t1_loop.trips) : k0_off7 k = slotOff (Ring.sl 2 k.val) := k0_off7_eq k
theorem off1_sem (k : Fin k0_t1_loop.trips) (h : k0_cond1 k = 1#1) : k0_off1 k = semOff (Ring.sl 2 (k.val + 1)) := k0_off1_eq k
theorem off2_slot (k : Fin k0_t1_loop.trips) (h : k0_cond1 k = 1#1) : k0_off2 k = slotOff (Ring.sl 2 (k.val + 1)) := k0_off2_eq k
theorem off3_blk (k : Fin k0_t1_loop.trips) (h : k0_cond1 k = 1#1) (hk : k.val + 1 < 8) : k0_off3 k = blkOff (Ring.bk 8 (k.val + 1)) := by
  rw [k0_off3_eq k]; unfold blkOff; rw [Ring.bk_val hk, Nat.mul_add]

/-- The prologue's names. -/
@[sl_canon] theorem semM_0 (hh) : (cc0_scratch2.slice (Rect.unit (s := S2) ![0] S1.size hh)).squeeze S_ squeezes_S1_S_ = semM 0 := semM_of (by decide) _
@[sl_canon] theorem slotM_0 (hh hs) : (ringM.slice (Rect.unit (s := S2x1024x2048) ![0, 0, 0] S1x1024x2048.size hh) hs).squeeze S1024x2048 squeezes_S1x1024x2048_S1024x2048 = slotM 0 := slotM_of (by decide) _ _
@[sl_canon] theorem blkM_0 (hh hs) : xM.slice (Rect.unit (s := S8192x2048) ![0, 0] S1024x2048.size hh) hs = blkM 0 := blkM_of (by decide) _ _

/-- The names of the block waited for. -/
@[sl_canon] theorem semM_wait (k : Fin k0_t1_loop.trips) (hh) :
    (cc0_scratch2.slice (Rect.unit (s := S2) (k0_off4 k) S1.size hh)).squeeze S_ squeezes_S1_S_ = semM (Ring.sl 2 k.val) := semM_of (off4_sem k) _
@[sl_canon] theorem slotM_wait (k : Fin k0_t1_loop.trips) (hh hs) :
    (ringM.slice (Rect.unit (s := S2x1024x2048) (k0_off5 k) S1x1024x2048.size hh) hs).squeeze S1024x2048 squeezes_S1x1024x2048_S1024x2048 = slotM (Ring.sl 2 k.val) := slotM_of (off5_slot k) _ _
@[sl_canon] theorem blkM_wait (k : Fin k0_t1_loop.trips) (hh hs) :
    xM.slice (Rect.unit (s := S8192x2048) (k0_off6 k) S1024x2048.size hh) hs = blkM (Ring.bk 8 k.val) := blkM_of (off6_blk k) _ _

/-- The names of the block started. -/
@[sl_canon] theorem semM_start (k : Fin k0_t1_loop.trips) (h : k0_cond1 k = 1#1) (hh) :
    (cc0_scratch2.slice (Rect.unit (s := S2) (k0_off1 k) S1.size hh)).squeeze S_ squeezes_S1_S_ = semM (Ring.sl 2 (k.val + 1)) := semM_of (off1_sem k h) _
@[sl_canon] theorem slotM_start (k : Fin k0_t1_loop.trips) (h : k0_cond1 k = 1#1) (hh hs) :
    (ringM.slice (Rect.unit (s := S2x1024x2048) (k0_off2 k) S1x1024x2048.size hh) hs).squeeze S1024x2048 squeezes_S1x1024x2048_S1024x2048 = slotM (Ring.sl 2 (k.val + 1)) := slotM_of (off2_slot k h) _ _
@[sl_canon] theorem blkM_start (k : Fin k0_t1_loop.trips) (h : k0_cond1 k = 1#1) (hk : k.val + 1 < 8) (hh hs) :
    xM.slice (Rect.unit (s := S8192x2048) (k0_off3 k) S1024x2048.size hh) hs = blkM (Ring.bk 8 (k.val + 1)) := blkM_of (off3_blk k h hk) _ _

/-! ## A slot free, a slot in flight -/

section Pieces
variable (c : Dev nD) (fx : Buf (Elt F) (xM.view.loc (c : Thread nD τ)))

/-- The half share of the tokens' array that slot `s` lends. -/
abbrev half (s : Fin 2) : PosShare TreeShare := if s = 0 then fullShare.left else fullShare.right

/-- The tokens' array at slot `s`'s half share, on the elements `S`. -/
abbrev xP (s : Fin 2) (S : Finset (Idx (xM.view.loc (c : Thread nD τ)))) : sProp 𝕄 :=
  xM.view.loc (c : Thread nD τ) ↦[S]{half s} fx
abbrev slotP (s : Fin 2) (f : Buf (Elt F) ((slotM s).view.loc (c : Thread nD τ))) : sProp 𝕄 :=
  (slotM s).view.loc (c : Thread nD τ) ↦[(slotM s).view.set]{fullShare} f
/-- What block `b`'s copy leaves in slot `s`. -/
abbrev landed (s : Fin 2) (b : Fin 8) (f : Buf (Elt F) ((slotM s).view.loc (c : Thread nD τ))) : Buf (Elt F) ((slotM s).view.loc (c : Thread nD τ)) :=
  (slotM s).view.writes (Elt F) f [⟨Rect.whole S1024x2048, ReadAs.same.apply ((blkM b).view.read (Elt F) fx)⟩]

/-- Slot `s` free: its semaphore at zero, the slot at anything, its half of the tokens whole. -/
def free (s : Fin 2) : sProp 𝕄 :=
  iprop(semVal ((c : Thread nD τ), SemLoc.dma (semM s).sem) 0 ∗ (∃ f, slotP c s f) ∗ xP c fx s Finset.univ)

/-- Slot `s` in flight with block `b`: the copy, and what of the slot's half of the tokens is not lent to it. -/
def inflight (s : Fin 2) (b : Fin 8) : sProp 𝕄 :=
  iprop((∃ f, Transfers.Flight (countersEmb (U := Pipeline.UD sig nD τ)) (c : Thread nD τ) (SemLoc.dma (semM s).sem) () 262144
            iprop(slotP c s (landed c fx s b f) ∗ ((blkM b).view.loc (c : Thread nD τ) ↦[(blkM b).view.set]{half s} fx)))
    ∗ xP c fx s (Finset.univ \ (blkM b).view.set))

end Pieces

/-! ## One trip -/

section Trip
variable (c : Dev nD) (fx : Buf (Elt F) (xM.view.loc (c : Thread nD τ)))
  (arg1 : Memref sig .tc .vmem S2048x16 .f32) (harg1 : arg1.IsWhole) (f1 : Buf (Elt F) (arg1.view.loc (c : Thread nD τ)))

/-- The weights as the body loads them. -/
abbrev wtOf : Vec F S2048x16 .f32 :=
  arg1.view.readAt (Elt F) (Rect.unit (s := S2048x16) ![0, 0] S2048x16.size inb_S2048x16_S2048x16_0_0).toLoadRect f1

/-- The product of block `b` with the weights. -/
def lgBlk (W : Vec F S2048x16 .f32) (b : Fin 8) : FVec F S1024x16 .f32 :=
  shapeCast S1024x16 (matmul dot_S1024x2048_S2048x16_S1024x16_1_0_0_1_n_n none ((blkM b).view.read (Elt F) fx)
    (shapeCast S2048x16 W shapeCasts_S2048x16_S2048x16) (constant S1024x16 .f32 0x00000000#32)) shapeCasts_S1024x16_S1024x16

/-- The logits, all 8192 rows: row `1024 * b + r` is row `r` of block `b`'s product. -/
def logits (W : Vec F S2048x16 .f32) : FVec F S8192x16 .f32 := fun i =>
  lgBlk c fx W ⟨(i 0).val / 1024, by have : (i 0).val < 8192 := (i 0).isLt; omega⟩
    (ix2 ⟨(i 0).val % 1024, Nat.mod_lt _ (by decide)⟩ (i 1))

/-- The logits' buffer before trip `k`: the rows below `1024 * k` are right. -/
def rowsDone (k : ℕ) (f : Buf (Elt F) (lgM.view.loc (c : Thread nD τ))) : Prop :=
  ∀ i : S8192x16.Idx, (i 0).val < 1024 * k → lgM.view.read (Elt F) f i = logits c fx (wtOf c arg1 f1) i

/-- The resources before trip `k`. -/
def invAt (k : ℕ) : sProp 𝕄 :=
  iprop((if k < 8 then inflight c fx (Ring.sl 2 k) (Ring.bk 8 k) else free c fx (Ring.sl 2 k))
    ∗ free c fx (Ring.sl 2 (k + 1))
    ∗ (arg1.view.loc (c : Thread nD τ) ↦[arg1.view.set]{fullShare} f1)
    ∗ (∃ f, (lgM.view.loc (c : Thread nD τ) ↦[lgM.view.set]{fullShare} f) ∗ ⌜rowsDone c fx arg1 f1 k f⌝)
    ∗ ∃ W, owes (c : Thread nD τ) 0 W)

variable (arg2 : Memref sig .tc .vmem S8192x16 .f32) (harg2 : arg2.IsWhole) (arg3 : Memref sig .tc .vmem S8192x16 .f32) (harg3 : arg3.IsWhole)
  (arg4 : Memref sig .tc .vmem S1x1 .f32) (harg4 : arg4.IsWhole)

abbrev tripG (k : Fin k0_t1_loop.trips) : Prog (TpuEff nD τ sig (Elt F) Λ₀ .tc) Unit :=
  k0_t1_body (F := F) xM (Memref.isWhole_whole _) arg1 harg1 arg2 harg2 arg3 harg3 arg4 harg4 ringM (Memref.isWhole_whole _) lgM (Memref.isWhole_whole _) cc0_scratch2 k ()

theorem cond_lt (k : Fin k0_t1_loop.trips) : k0_cond1 k = 1#1 ↔ k.val + 1 < 8 := by
  revert k; decide

/-- The two halves of a tokens' half share: what block `b`'s copy gives back, and what stayed. -/
theorem x_join (s : Fin 2) (b : Fin 8) :
    iprop(((blkM b).view.loc (c : Thread nD τ) ↦[(blkM b).view.set]{half s} fx) ∗ xP c fx s (Finset.univ \ (blkM b).view.set))
      ⊢ (xP c fx s Finset.univ : sProp 𝕄) :=
  (pointsTo_split_subset (Finset.subset_univ _)).2

/-- Loaded from a slot that block `b`'s copy filled and multiplied with the weights: block `b`'s product. -/
theorem pay_landed {off : Fin 3 → Nat} {s : Fin 2} (e : off = slotOff s) (hh) (b : Fin 8) (W : Vec F S2048x16 .f32)
    (f : Buf (Elt F) ((slotM s).view.loc (c : Thread nD τ))) :
    k0_pay2 (ringM.view.readAt (Elt F) (Rect.unit (s := S2x1024x2048) off S1x1024x2048.size hh).toLoadRect (landed c fx s b f)) W
      = lgBlk c fx W b := by
  subst e
  have h : shapeCast S1024x2048 (ringM.view.readAt (Elt F) (Rect.unit (s := S2x1024x2048) (slotOff s) S1x1024x2048.size hh).toLoadRect
      (landed c fx s b f)) shapeCasts_S1x1024x2048_S1024x2048 = (blkM b).view.read (Elt F) fx := by
    refine (Memref.read_squeeze_slice ringM (Rect.unit (s := S2x1024x2048) (slotOff s) S1x1024x2048.size hh) (fun _ => rfl)
      squeezes_S1x1024x2048_S1024x2048 shapeCasts_S1x1024x2048_S1024x2048 (landed c fx s b f)).symm.trans ?_
    funext y
    exact View.read_writes_cons_hit_of_coords (slotM s).view f (Rect.whole S1024x2048) _ [] y y
      (fun a => by show (y a).val = 0 + 1 * (y a).val; omega)
  unfold k0_pay2 lgBlk
  dsimp only
  rw [h]

/-- Storing block `k`'s product at row `1024 * k` extends the right rows by block `k`. -/
theorem rowsDone_succ (k : Fin k0_t1_loop.trips) (f : Buf (Elt F) (lgM.view.loc (c : Thread nD τ))) (h : rowsDone c fx arg1 f1 k f)
    (P : FVec F S1024x16 .f32) (hP : P = lgBlk c fx (wtOf c arg1 f1) (Ring.bk 8 k.val)) (hh) :
    rowsDone c fx arg1 f1 (k.val + 1) (lgM.view.writes (Elt F) f [⟨Rect.unit (s := S8192x16) (k0_off8 k) S1024x16.size hh, P⟩]) := by
  intro i hi
  have hk := trips_le k
  rw [View.read_writes_cons_rows lgM.view f hh P [] i (k0_off8_eq k) rfl rfl]
  split
  · next hr =>
    have hr' : 1024 * k.val ≤ (i 0).val ∧ (i 0).val < 1024 * k.val + 1024 := hr
    have hb : Ring.bk 8 k.val = ⟨(i 0).val / 1024, by have : (i 0).val < 8192 := (i 0).isLt; omega⟩ := by
      apply Fin.ext; rw [Ring.bk_val hk]; clear hi hr; show k.val = (i 0).val / 1024; omega
    subst hP
    unfold logits
    rw [hb]
    refine congrArg _ (funext fun a => Fin.ext ?_)
    match a with
    | ⟨0, _⟩ =>
      show (i 0).val - 1024 * k.val = (i 0).val % 1024
      clear hi hr; omega
    | ⟨1, _⟩ => exact Nat.sub_zero _
  · next hr =>
    refine h i ?_
    have hr' : ¬ (1024 * k.val ≤ (i 0).val ∧ (i 0).val < 1024 * k.val + 1024) := hr
    omega

theorem trip_start (k : Fin k0_t1_loop.trips) (hk : k.val + 1 < 8) :
    invAt c fx arg1 f1 k ⊢ wp frame (wpE (defs₀ (F := F)) Variants.none (c : Thread nD τ) none) Set.univ
      (tripG arg1 harg1 arg2 harg2 arg3 harg3 arg4 harg4 k) (fun _ => invAt c fx arg1 f1 (k.val + 1)) := by
  have hc : k0_cond1 k = 1#1 := (cond_lt k).mpr hk
  unfold invAt
  rw [if_pos (trips_le k), if_pos hk]
  unfold free inflight
  iintro ⟨⟨⟨%fs, Hfl⟩, Hrest⟩, ⟨Hcell, ⟨%fo, Hslot⟩, Htok⟩, Hw, ⟨%fl, Hlg, %hl⟩, ⟨%W, HO⟩⟩
  unfold tripG k0_t1_body
  sl_exec
  sl_step
  rw [show Ring.sl 2 (k.val + 1 + 1) = Ring.sl 2 k.val from Ring.sl_add 2 k.val]
  ihave Hx := (x_join c fx (Ring.sl 2 k.val) (Ring.bk 8 k.val)) $$ [Hfl_src Hrest]
  · isplitl [Hfl_src]; · iexact Hfl_src
    iexact Hrest
  isplitl [Hcell Htok]
  · isplitl [Hcell]; · iexists fo; iexact Hcell
    iexact Htok
  isplitl [Hfl Hfl_dst Hx]
  · isplitl [Hfl]; · iexact Hfl
    isplitl [Hfl_dst]; · iexists _; iexact Hfl_dst
    iexact Hx
  isplitl [Hw]; · iexact Hw
  isplitl [Hlg]
  · iexists _; isplitl; · iexact Hlg
    ipureintro
    exact rowsDone_succ c fx arg1 f1 k fl hl _ (pay_landed c fx (k0_off7_eq k) _ _ _ _) _
  iexists _; iexact HO

theorem trip_last (k : Fin k0_t1_loop.trips) (hk : ¬ k.val + 1 < 8) :
    invAt c fx arg1 f1 k ⊢ wp frame (wpE (defs₀ (F := F)) Variants.none (c : Thread nD τ) none) Set.univ
      (tripG arg1 harg1 arg2 harg2 arg3 harg3 arg4 harg4 k) (fun _ => invAt c fx arg1 f1 (k.val + 1)) := by
  have hc : ¬ k0_cond1 k = 1#1 := fun h => hk ((cond_lt k).mp h)
  unfold invAt
  rw [if_pos (trips_le k), if_neg hk]
  unfold free inflight
  iintro ⟨⟨⟨%fs, Hfl⟩, Hrest⟩, ⟨Hcell, ⟨%fo, Hslot⟩, Htok⟩, Hw, ⟨%fl, Hlg, %hl⟩, ⟨%W, HO⟩⟩
  unfold tripG k0_t1_body
  sl_exec
  sl_step
  rw [show Ring.sl 2 (k.val + 1 + 1) = Ring.sl 2 k.val from Ring.sl_add 2 k.val]
  ihave Hx := (x_join c fx (Ring.sl 2 k.val) (Ring.bk 8 k.val)) $$ [Hfl_src Hrest]
  · isplitl [Hfl_src]; · iexact Hfl_src
    iexact Hrest
  isplitl [Hcell Hslot Htok]
  · isplitl [Hcell]; · iexact Hcell
    isplitl [Hslot]; · iexists _; iexact Hslot
    iexact Htok
  isplitl [Hfl Hfl_dst Hx]
  · isplitl [Hfl]; · iexact Hfl
    isplitl [Hfl_dst]; · iexists _; iexact Hfl_dst
    iexact Hx
  isplitl [Hw]; · iexact Hw
  isplitl [Hlg]
  · iexists _; isplitl; · iexact Hlg
    ipureintro
    exact rowsDone_succ c fx arg1 f1 k fl hl _ (pay_landed c fx (k0_off7_eq k) _ _ _ _) _
  iexists _; iexact HO

theorem trip (k : Fin k0_t1_loop.trips) :
    invAt c fx arg1 f1 k ⊢ wp frame (wpE (defs₀ (F := F)) Variants.none (c : Thread nD τ) none) Set.univ
      (tripG arg1 harg1 arg2 harg2 arg3 harg3 arg4 harg4 k) (fun _ => invAt c fx arg1 f1 (k.val + 1)) := by
  by_cases hk : k.val + 1 < 8
  · exact trip_start c fx arg1 harg1 f1 arg2 harg2 arg3 harg3 arg4 harg4 k hk
  · exact trip_last c fx arg1 harg1 f1 arg2 harg2 arg3 harg3 arg4 harg4 k hk

end Trip

end Cert.KernelIdeal.Hand

end
-- ==== Proof.KernelIdeal.Body.lean ====
/-
  The kernel's body run once, and the kernel run whole.

  The body leaves in its three outputs functions of the 8192 rows of logits: the softmax, the dispatch and the loss.
  Around it the host reshapes the tokens and transposes the weights before, and reshapes the loss after.
-/
module

public import proofs.«01_k».proof.Proof.KernelIdeal.Trip
public import proofs.«01_k».proof.Proof.Gen.KernelIdeal.Frame
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra of the proof: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## Whole loads and stores -/

/-- A load of every entry reads the contents. -/
theorem readAt_full {S : Shape} {e : EltTy} {sp : Space} (M : Memref sig .tc sp S e) {off : Fin S.rank → ℕ} (h0 : off = fun _ => 0)
    (h : ∀ a, off a + S.size a ≤ S.size a) (f : M.view.ty.Contents (Elt F)) :
    M.view.readAt (Elt F) (Rect.unit (s := S) off S.size h).toLoadRect f = M.view.read (Elt F) f := by
  subst h0
  funext y
  rw [View.readAt_apply]
  exact congrArg _ (funext fun a => Fin.ext (by show 0 + 1 * (y a).val = (y a).val; omega))

/-- After a store of every entry the contents are what was stored. -/
theorem read_full {S : Shape} {e : EltTy} {sp : Space} (M : Memref sig .tc sp S e) {off : Fin S.rank → ℕ} (h0 : off = fun _ => 0)
    (h : ∀ a, off a + S.size a ≤ S.size a) (f : M.view.ty.Contents (Elt F)) (w : S.Idx → Elt F e) (L : List (View.Piece (Elt F) S e)) :
    M.view.read (Elt F) (M.view.writes (Elt F) f (⟨Rect.unit (s := S) off S.size h, w⟩ :: L)) = w := by
  subst h0
  funext y
  exact View.read_writes_cons_hit_of_coords M.view f (Rect.unit (s := S) (fun _ => 0) S.size h) w L y y
    (fun a => by show (y a).val = 0 + 1 * (y a).val; omega)

theorem zero2 : (![0, 0] : Fin 2 → ℕ) = fun _ => 0 := by
  funext a; fin_cases a <;> rfl

/-! ## The buffer of two slots whole, and its two slots -/

abbrev slotSet (s : Fin 2) : Finset S2x1024x2048.Idx := (Rect.unit (s := S2x1024x2048) (slotOff s) S1x1024x2048.size (slotOff_inb s)).set

theorem slotM_set (s : Fin 2) : (slotM s : Memref sig .tc .vmem _ _).view.set = slotSet s :=
  (View.set_reshape _ _).trans (View.set_slice_whole _ _)

theorem mem_slotSet (s : Fin 2) (y : S2x1024x2048.Idx) : y ∈ slotSet s ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega

theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 2)).biUnion slotSet = Finset.univ := by
  ext y; simp only [Finset.mem_biUnion, Finset.mem_univ, true_and, iff_true]; exact ⟨(y 0).cast (by decide), by rw [mem_slotSet]; rfl⟩

theorem slotP_eq (c : Dev nD) (s : Fin 2) (f) : slotP c s f = (((c : Thread nD τ).loc cc0_scratch0) ↦[slotSet s]{fullShare} f : sProp 𝕄) :=
  congrArg (fun S => (_ ↦[S]{fullShare} f : sProp 𝕄)) (slotM_set s)

theorem ring_split (c : Dev nD) :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) :=
  Ring.slots2_split (ℓ := (c : Thread nD τ).loc cc0_scratch0) slotSet slotSet_disjoint slotSet_cover _ _ (slotP_eq c 0) (slotP_eq c 1)
theorem ring_join (c : Dev nD) :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) :=
  Ring.slots2_join (ℓ := (c : Thread nD τ).loc cc0_scratch0) slotSet slotSet_disjoint slotSet_cover _ _ (slotP_eq c 0) (slotP_eq c 1)

/-- The tokens' array whole is the two halves, one per slot. -/
theorem x_split (c : Dev nD) (fx : Buf (Elt F) (xM.view.loc (c : Thread nD τ))) :
    (xM.view.loc (c : Thread nD τ) ↦{fullShare} fx : sProp 𝕄) ⊢ iprop(xP c fx 0 Finset.univ ∗ xP c fx 1 Finset.univ) :=
  (pointsTo_share (PosShare.mem_left_op_right fullShare)).1
theorem x_unsplit (c : Dev nD) (fx : Buf (Elt F) (xM.view.loc (c : Thread nD τ))) :
    iprop(xP c fx 0 Finset.univ ∗ xP c fx 1 Finset.univ) ⊢ (xM.view.loc (c : Thread nD τ) ↦{fullShare} fx : sProp 𝕄) :=
  (pointsTo_share (PosShare.mem_left_op_right fullShare)).2

/-! ## What the body leaves in its outputs -/

/-- The row numbers of a column of 16. -/
abbrev rowIota : IVec S16x8192 32 := iota .tc S16x8192 32 [0] iota_S16x8192_d0_w32
/-- The softmax of the logits. -/
def outRw (L : FVec F S8192x16 .f32) : FVec F S8192x16 .f32 := k0_pay5 L
/-- The dispatch. -/
def outNd (L : FVec F S8192x16 .f32) : FVec F S8192x16 .f32 := k0_pay12 rowIota (k0_pay6 L) (k0_pay7 L) (k0_pay9 L) (k0_pay10 L)
/-- The loss. -/
def outLoss (L : FVec F S8192x16 .f32) : FVec F S1x1 .f32 :=
  k0_pay1 (k0_pay3 L) (k0_pay11 rowIota (k0_pay6 L) (k0_pay7 L) (k0_pay9 L) (k0_pay10 L))

/-! ## The body -/

section Body
variable (c : Dev nD) (fx : Buf (Elt F) (xM.view.loc (c : Thread nD τ))) (Wt : Vec F S2048x16 .f32)
  (arg1 : Memref sig .tc .vmem S2048x16 .f32) (harg1 : arg1.IsWhole)
  (arg2 : Memref sig .tc .vmem S8192x16 .f32) (harg2 : arg2.IsWhole) (arg3 : Memref sig .tc .vmem S8192x16 .f32) (harg3 : arg3.IsWhole)
  (arg4 : Memref sig .tc .vmem S1x1 .f32) (harg4 : arg4.IsWhole)

theorem sl2_0 : Ring.sl 2 0 = 0 := Fin.ext (by rfl)
theorem sl2_1 : Ring.sl 2 (0 + 1) = 1 := Fin.ext (by rfl)
theorem sl2_8 : Ring.sl 2 8 = 0 := Fin.ext (by rfl)
theorem sl2_9 : Ring.sl 2 (8 + 1) = 1 := Fin.ext (by rfl)
theorem bk8_0 : Ring.bk 8 0 = 0 := Fin.ext (by rfl)

theorem trips_eq : k0_t1_loop.trips = 8 := by decide

/-- Before the first trip, from block 0 in flight in slot 0 and slot 1 free. -/
theorem inv_zero (f1 : Buf (Elt F) (arg1.view.loc (c : Thread nD τ))) :
    invAt c fx arg1 f1 0 = iprop(inflight c fx 0 0 ∗ free c fx 1
    ∗ (arg1.view.loc (c : Thread nD τ) ↦[arg1.view.set]{fullShare} f1)
    ∗ (∃ f, (lgM.view.loc (c : Thread nD τ) ↦[lgM.view.set]{fullShare} f) ∗ ⌜rowsDone c fx arg1 f1 0 f⌝)
    ∗ ∃ W, owes (c : Thread nD τ) 0 W) := by
  unfold invAt
  rw [if_pos (by decide), sl2_0, sl2_1, bk8_0]

/-- After the last trip. -/
theorem inv_last (f1 : Buf (Elt F) (arg1.view.loc (c : Thread nD τ))) :
    invAt c fx arg1 f1 k0_t1_loop.trips = iprop(free c fx 0 ∗ free c fx 1
    ∗ (arg1.view.loc (c : Thread nD τ) ↦[arg1.view.set]{fullShare} f1)
    ∗ (∃ f, (lgM.view.loc (c : Thread nD τ) ↦[lgM.view.set]{fullShare} f) ∗ ⌜rowsDone c fx arg1 f1 8 f⌝)
    ∗ ∃ W, owes (c : Thread nD τ) 0 W) := by
  unfold invAt
  rw [trips_eq, if_neg (by decide), sl2_8, sl2_9]

attribute [local sl_canon] sl2_0 sl2_1 bk8_0 in
theorem body_run (W : Waits sig Unit) (K : PUnit → sProp 𝕄) :
    iprop(owns (c : Thread nD τ) arg1 fullShare Wt
        ∗ (∃ d, owns (c : Thread nD τ) arg2 fullShare d) ∗ (∃ d, owns (c : Thread nD τ) arg3 fullShare d) ∗ (∃ d, owns (c : Thread nD τ) arg4 fullShare d)
        ∗ (∃ f, slotP c 0 f) ∗ (∃ f, slotP c 1 f) ∗ (∃ d, owns (c : Thread nD τ) lgM fullShare d)
        ∗ semVal ((c : Thread nD τ), SemLoc.dma (semM 0).sem) 0 ∗ semVal ((c : Thread nD τ), SemLoc.dma (semM 1).sem) 0
        ∗ xP c fx 0 Finset.univ ∗ xP c fx 1 Finset.univ
        ∗ owes (c : Thread nD τ) 0 W
        ∗ (iprop(owns (c : Thread nD τ) arg1 fullShare Wt
            ∗ owns (c : Thread nD τ) arg2 fullShare (outRw (logits c fx Wt)) ∗ owns (c : Thread nD τ) arg3 fullShare (outNd (logits c fx Wt))
            ∗ owns (c : Thread nD τ) arg4 fullShare (outLoss (logits c fx Wt))
            ∗ (∃ f, slotP c 0 f) ∗ (∃ f, slotP c 1 f) ∗ (∃ d, owns (c : Thread nD τ) lgM fullShare d)
            ∗ semVal ((c : Thread nD τ), SemLoc.dma (semM 0).sem) 0 ∗ semVal ((c : Thread nD τ), SemLoc.dma (semM 1).sem) 0
            ∗ xP c fx 0 Finset.univ ∗ xP c fx 1 Finset.univ
            ∗ (∃ W', owes (c : Thread nD τ) 0 W')) -∗ K ⟨⟩))
      ⊢ wp frame (wpE (defs₀ (F := F)) Variants.none (c : Thread nD τ) none) Set.univ
          (cc0__router_body xM (Memref.isWhole_whole _) arg1 harg1 arg2 harg2 arg3 harg3 arg4 harg4 ringM (Memref.isWhole_whole _) lgM (Memref.isWhole_whole _) cc0_scratch2) K := by
  rw [cc0__router_body_eq_skeleton]
  unfold cc0__router_body_skel
  simp only [k0_part1_eq_skeleton, k0_part2_eq_skeleton]
  unfold k0_part1_skel k0_part2_skel
  simp only [bind_assoc, pure_bind]
  unfold owns
  iintro ⟨⟨%f1, %h1, H1⟩, ⟨%d2, %f2, -, H2⟩, ⟨%d3, %f3, -, H3⟩, ⟨%d4, %f4, -, H4⟩, ⟨%g0, Hs0⟩, ⟨%g1, Hs1⟩, ⟨%d6, %f6, -, H6⟩, Hc0, Hc1, Hx0, Hx1, HW, Hk⟩
  have h0 : rowsDone c fx arg1 f1 0 f6 := fun i hi => absurd hi (by omega)
  sl_exec
  sl_for (fun k (_ : PUnit) => invAt c fx arg1 f1 k) $$ [H1 Hs1 H6 Hc1 Hx1 HW Hc0 Hx0]
  · intro k acc
    exact trip c fx arg1 harg1 f1 arg2 harg2 arg3 harg3 arg4 harg4 k
  · rw [inv_zero]
    unfold inflight free
    isplitl [Hc0 Hx0]
    · isplitl [Hc0]; · iexists g0; iexact Hc0
      iexact Hx0
    isplitl [Hc1 Hs1 Hx1]
    · isplitl [Hc1]; · iexact Hc1
      isplitl [Hs1]; · iexists g1; iexact Hs1
      iexact Hx1
    isplitl [H1]; · iexact H1
    isplitl [H6]
    · iexists f6; isplitl; · iexact H6
      ipureintro; exact h0
    iexists W; iexact HW
  iintro %acc HI
  ihave HI' := (Entails.of_eq (inv_last c fx arg1 f1)) $$ HI
  unfold free
  icases HI' with ⟨⟨Hc0, ⟨%e0, Hs0⟩, Hx0⟩, ⟨Hc1, ⟨%e1, Hs1⟩, Hx1⟩, H1, ⟨%fl, H6, %hl⟩, ⟨%W2, HW⟩⟩
  have hL : lgM.view.readAt (Elt F) (Rect.unit (s := S8192x16) ![0, 0] S8192x16.size inb_S8192x16_S8192x16_0_0).toLoadRect fl = logits c fx Wt := by
    rw [readAt_full lgM zero2, ← h1, ← readAt_full arg1 zero2 inb_S2048x16_S2048x16_0_0 f1]
    funext i
    exact hl i (i 0).isLt
  sl_exec
  sl_step
  iapply Hk
  isplitl [H1]
  · iexists f1; isplitr; · ipureintro; exact h1
    iexact H1
  isplitl [H2]
  · iexists _; isplitr; swap; · iexact H2
    ipureintro
    rw [read_full arg2 zero2]; rfl
  isplitl [H3]
  · iexists _; isplitr; swap; · iexact H3
    ipureintro
    rw [read_full arg3 zero2]; rfl
  isplitl [H4]
  · iexists _; isplitr; swap; · iexact H4
    ipureintro
    rw [read_full arg4 zero2]; rfl
  isplitl [Hs0]; · iexists e0; iexact Hs0
  isplitl [Hs1]; · iexists e1; iexact Hs1
  isplitl [H6]
  · iexists _, fl; isplitr; · ipureintro; rfl
    iexact H6
  isplitl [Hc0]; · iexact Hc0
  isplitl [Hc1]; · iexact Hc1
  isplitl [Hx0]; · iexact Hx0
  isplitl [Hx1]; · iexact Hx1
  iexists _; iexact HW

end Body

end Cert.KernelIdeal.Hand

end
-- ==== Proof.KernelIdeal.Run.lean ====
/-
  The kernel run whole: the body's run put into the pipeline's one point, and the host lines around it.
-/
module

public import proofs.«01_k».proof.Proof.KernelIdeal.Body
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra of the proof: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## What the pipeline lends the body beside its windows -/

/-- The body's two transfer semaphores. -/
abbrev osem : Fin 2 → SemLoc sig := fun s => .dma (semM s).sem
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma (semM 0).sem) 0 ∗ semVal ((c : Thread nD τ), SemLoc.dma (semM 1).sem) 0) := by
  rw [Pipeline.ownSems0_eq_of_list c osem [0, 1] (by decide) (by decide)]; rfl
/-- The one operand the body's own transfers read: the reshaped tokens. -/
def H0 : Finset (Ref sig .tc) := {main_v0}
theorem H0_sub : H0 ⊆ Pipeline.restRefs sig spec0 := by decide
theorem hbmPts_eq (c : Dev nD) :
    (bigSep H0 (fun b => ((c : Thread nD τ).loc b) ↦{fullShare} V m c b) : sProp 𝕄)
      = (xM.view.loc (c : Thread nD τ) ↦{fullShare} V m c main_v0) := by
  rw [BI.bigSep_eq_bigSepL_of_eq [main_v0] (by decide) (by decide)]; rfl

theorem Phi_eq (c : Dev nD) :
    (Pipeline.ΦD osem spec0 H0 (V m) c : sProp 𝕄)
      = iprop(((∃ f : Buf (Elt F) ((c : Thread nD τ).loc cc0_scratch0), ((c : Thread nD τ).loc cc0_scratch0) ↦{fullShare} f)
            ∗ (∃ d, owns (c : Thread nD τ) lgM fullShare d))
          ∗ (∃ r, prngReg c r)
          ∗ (semVal ((c : Thread nD τ), SemLoc.dma (semM 0).sem) 0 ∗ semVal ((c : Thread nD τ), SemLoc.dma (semM 1).sem) 0)
          ∗ (xM.view.loc (c : Thread nD τ) ↦{fullShare} V m c main_v0)) := by
  rw [Pipeline.ΦD_eq, scopedRest0_eq, ownSems_eq, hbmPts_eq]
  simp only [lgM, owns_whole]; try rfl

/-! ## The proof data and the body's obligation -/

/-- The logits of device `c`: its reshaped tokens against its transposed weights. -/
def L (c : Dev nD) : FVec F S8192x16 .f32 := logits c (V m c main_v0) (iblk m c 0 t0_0)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outRw (logits c (V m c main_v0) (iblk m c 0 t))
    | ⟨2, _⟩ => outNd (logits c (V m c main_v0) (iblk m c 0 t))
    | ⟨3, _⟩ => outLoss (logits c (V m c main_v0) (iblk m c 0 t))
  Φ _ := Pipeline.ΦD osem spec0 H0 (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = outRw (logits c (V m c main_v0) (iblk m c 0 t)) := by dsimp only [dats]
theorem after_2 (c : Dev nD) (t : Fin cfg0.N) : (dats m 0 c).after 2 t = outNd (logits c (V m c main_v0) (iblk m c 0 t)) := by dsimp only [dats]
theorem after_3 (c : Dev nD) (t : Fin cfg0.N) : (dats m 0 c).after 3 t = outLoss (logits c (V m c main_v0) (iblk m c 0 t)) := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_0, after_1, after_2, after_3]
  rw [show (dats m 0 c).Φ t.castSucc = Pipeline.ΦD osem spec0 H0 (V m) c from rfl, Phi_eq]
  simp only [before_0]
  unfold Dat.owesAt Pipeline.owesWithin
  rw [show (dats m 0 c).owed t.castSucc = 0 from rfl, show (dats m 0 c).owed t.succ = 0 from rfl]
  iintro ⟨⟨⟨Hring, Hlg⟩, Hg, ⟨Hc0, Hc1⟩, Hx⟩, ⟨%W, -, HW⟩, ⟨%d0, H1⟩, ⟨%d1, H2⟩, ⟨%d2, H3⟩, ⟨%d3, H4⟩⟩
  ihave Hs := (ring_split (F := F) c) $$ Hring
  icases Hs with ⟨Hs0, Hs1⟩
  ihave Hxs := (x_split c (V m c main_v0)) $$ Hx
  icases Hxs with ⟨Hx0, Hx1⟩
  iapply (body_run c (V m c main_v0) (iblk m c 0 t) _ _ _ _ _ _ _ _ W _)
  isplitl [H1]; · iexact H1
  isplitl [H2]; · iexists _; iexact H2
  isplitl [H3]; · iexists _; iexact H3
  isplitl [H4]; · iexists _; iexact H4
  isplitl [Hs0]; · iexact Hs0
  isplitl [Hs1]; · iexact Hs1
  isplitl [Hlg]; · iexact Hlg
  isplitl [Hc0]; · iexact Hc0
  isplitl [Hc1]; · iexact Hc1
  isplitl [Hx0]; · iexact Hx0
  isplitl [Hx1]; · iexact Hx1
  isplitl [HW]; · iexact HW
  iintro ⟨H1, H2, H3, H4, Hs0, Hs1, Hlg, Hc0, Hc1, Hx0, Hx1, ⟨%W', HW'⟩⟩
  ihave Hring := (ring_join (F := F) c) $$ [Hs0 Hs1]
  · isplitl [Hs0]; · iexact Hs0
    iexact Hs1
  ihave Hx := (x_unsplit c (V m c main_v0)) $$ [Hx0 Hx1]
  · isplitl [Hx0]; · iexact Hx0
    iexact Hx1
  isplitl [Hring Hlg Hg Hc0 Hc1 Hx]
  · isplitl [Hring Hlg]
    · isplitl [Hring]; · iexact Hring
      iexact Hlg
    isplitl [Hg]; · iexact Hg
    isplitl [Hc0 Hc1]
    · isplitl [Hc0]; · iexact Hc0
      iexact Hc1
    iexact Hx
  isplitl [HW']
  · iexists W'; isplitr; · ipureintro; exact fun _ _ => Or.inl trivial
    iexact HW'
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The host lines before the region, the region, the host line after it. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The line after the region touches no buffer the body's own transfers read. -/
theorem sfx_sub_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  simp only [hostOps1, List.mem_cons, List.mem_nil_iff, or_false] at hop
  rcases hop with rfl
  intro b hb
  rw [StableHlo.reshape_bufs] at hb
  revert b
  exact (by decide : ({Proc.devRef .tc main_v2_2, Proc.devRef .tc main_v3} : Finset (DevRef τ sig)) ⊆ Pipeline.tailRefsBut sig Pipeline.Prefetch.none spec0 H0)

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V₀ := V0 m) (opss := [hostOps1]) (hsub := sfx_sub_but) (hfresh := sfx_fresh) (hkeep := sfx_keeps)
    (hmain := hmain m) (hA := A_eq m)
    (hin := fun _ => .rfl) (hout := fun _ => .rfl)

/-! ## What the run leaves -/

theorem W_main_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The frame: the run ends, the arguments end as launched, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (W_main_arg0 m c),
       ((h.1 c).2 main_arg1 (Pipeline.mem_restRefs_of main_arg1 (by decide) (by decide))).trans (W_main_arg1 m c)⟩, h.2⟩) (run_main m ρ)

/-! ## The results -/

/-- A window's one block is its array. -/
theorem read_blk0 (f) : ((cfg0.win 0).blk t0_0).view.read (Elt F) f = f :=
  Memref.read_access_unit_zero (Elt F) main_v1 (by decide) _ f
theorem read_blk1 (f) : ((cfg0.win 1).blk t0_0).view.read (Elt F) f = f :=
  Memref.read_access_unit_zero (Elt F) main_v2_0 (by decide) _ f
theorem read_blk2 (f) : ((cfg0.win 2).blk t0_0).view.read (Elt F) f = f :=
  Memref.read_access_unit_zero (Elt F) main_v2_1 (by decide) _ f
theorem read_blk3 (f) : ((cfg0.win 3).blk t0_0).view.read (Elt F) f = f :=
  Memref.read_access_unit_zero (Elt F) main_v2_2 (by decide) _ f

/-- What a window's array reads at its block after the run is what the body left there. -/
theorem read_final (c : Dev nD) (w : Fin cfg0.W) (hf : (cfg0.win w).flush t0_0 = true) :
    ((cfg0.win w).blk t0_0).view.read (Elt F) ((dats m 0 c).arrAt w cfg0.N) = (dats m 0 c).flushed w t0_0 := by
  rw [show cfg0.N = t0_0.val + 1 from rfl, (dats m 0 c).arrAt_succ w t0_0, hf, if_pos rfl]
  exact View.read_write_univ _ _

theorem final_rw (c : Dev nD) : (dats m 0 c).arrAt 1 cfg0.N = outRw (L m c) :=
  (read_blk1 _).symm.trans ((read_final m c 1 (flush0_1 _)).trans (by
    show (cfg0.win 1).cut _ ((dats m 0 c).after 1 t0_0) = _
    rw [after_1]; rfl))
theorem final_nd (c : Dev nD) : (dats m 0 c).arrAt 2 cfg0.N = outNd (L m c) :=
  (read_blk2 _).symm.trans ((read_final m c 2 (flush0_2 _)).trans (by
    show (cfg0.win 2).cut _ ((dats m 0 c).after 2 t0_0) = _
    rw [after_2]; rfl))
theorem final_loss (c : Dev nD) : (dats m 0 c).arrAt 3 cfg0.N = outLoss (L m c) :=
  (read_blk3 _).symm.trans ((read_final m c 3 (flush0_3 _)).trans (by
    show (cfg0.win 3).cut _ ((dats m 0 c).after 3 t0_0) = _
    rw [after_3]; rfl))

theorem V_main_v0 (c : Dev nD) : V m c main_v0 = shapeCast S8192x2048 (m ((c : Thread nD τ).loc main_arg0)) shapeCasts_S2x4096x2048_S8192x2048 := by
  show StableHlo.after (List.flatten [hostOps0]) (fun b => m (c, b)) _ = _
  simp only [hostOps0, List.flatten_cons, List.flatten_nil, List.append_nil]
  after_reads_simp
  rfl
theorem V_main_v1 (c : Dev nD) : V m c main_v1 = transpose S2048x16 [1, 0] (m ((c : Thread nD τ).loc main_arg1)) transposes_S16x2048_S2048x16_1_0 := by
  show StableHlo.after (List.flatten [hostOps0]) (fun b => m (c, b)) _ = _
  simp only [hostOps0, List.flatten_cons, List.flatten_nil, List.append_nil]
  after_reads_simp

theorem L_eq (c : Dev nD) : L m c = logits c (shapeCast S8192x2048 (m ((c : Thread nD τ).loc main_arg0)) shapeCasts_S2x4096x2048_S8192x2048)
    (transpose S2048x16 [1, 0] (m ((c : Thread nD τ).loc main_arg1)) transposes_S16x2048_S2048x16_1_0) := by
  unfold L iblk
  rw [read_blk0, V_main_v0]
  rw [show V m c (Pipeline.arrRef spec0 0) = _ from V_main_v1 m c]

theorem W_main_v3 (c : Dev nD) :
    Pipeline.afterTail₀ cfgs (dats m) 0 (V0 m) [hostOps1] c main_v3 = shapeCast S_ (outLoss (L m c)) shapeCasts_S1x1_S_ := by
  unfold Pipeline.afterTail₀
  have hk : Pipeline.withArrays (cfgs (0 : Fin 1)).spec c (V0 m c) (fun w => (dats m 0 c).arrAt w cfg0.N) (Proc.devRef .tc (Pipeline.arrRef spec0 3))
      = (dats m 0 c).arrAt 3 cfg0.N := Pipeline.withArrays_arr spec0 launch0.win.arr_inj c (V0 m c) (fun w => (dats m 0 c).arrAt w cfg0.N) 3
  simp only [hostOps1, List.flatten_cons, List.flatten_nil, List.append_nil]
  after_reads_simp
  exact congrArg (fun f : FVec F S1x1 .f32 => shapeCast S_ f shapeCasts_S1x1_S_) (hk.trans (final_loss m c))

/-- The values: the three results as functions of the arguments, the arguments unchanged. -/
theorem values : θ_run defs (onTc (τ := τ) (main (F := F))) ⟨m, fun _ => 0, ρ⟩ (fun r => ∀ c : Dev nD,
      r.2.mem ((c.tc : Thread nD τ).loc main_v2_0) = outRw (L m c)
      ∧ r.2.mem ((c.tc : Thread nD τ).loc main_v2_1) = outNd (L m c)
      ∧ r.2.mem ((c.tc : Thread nD τ).loc main_v3) = shapeCast S_ (outLoss (L m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h.1 c).1 1).trans (final_rw m c), ((h.1 c).1 2).trans (final_nd m c),
       ((h.1 c).2 main_v3 (Pipeline.mem_restRefs_of main_v3 (by decide) (by decide))).trans (W_main_v3 m c),
       ((h.1 c).2 main_arg0 (Pipeline.mem_restRefs_of main_arg0 (by decide) (by decide))).trans (W_main_arg0 m c),
       ((h.1 c).2 main_arg1 (Pipeline.mem_restRefs_of main_arg1 (by decide) (by decide))).trans (W_main_arg1 m c)⟩) (run_main m ρ)

end Cert.KernelIdeal.Hand

end
-- ==== Proof.KernelBits.lean ====
/-
  The kernel at machine words. The kernel and its idealization are one text, printed twice: the frame proved of the
  idealization at any arithmetic is the kernel's, read at machine words.
-/
module

public import proofs.«01_k».proof.Defs
public import proofs.«01_k».proof.Proof.KernelIdeal.Run
public import proofs.«01_k».proof.Proof.Gen.Kernel

@[expose] public section

noncomputable section

namespace Cert.Kernel.Hand

open Idealize.ShloMosaic Idealize.ShloMosaic.TcCoe Idealize.SL.Sem Cert.Kernel

variable (m : (ℓ : Loc nD τ sig) → Buf (Elt Bits) ℓ) (ρ : Dev nD → PrngReg)

theorem sig_eq : sig = Cert.KernelIdeal.sig := rfl
instance : Cert.Kernel.Facts := Cert.Kernel.Gen.facts

theorem part1_eq : @k0_part1 Bits _ _ = @Cert.KernelIdeal.k0_part1 Bits _ _ := rfl
theorem part2_eq : @k0_part2 Bits _ _ = @Cert.KernelIdeal.k0_part2 Bits _ _ := rfl
theorem body_eq : @cc0__router_body Bits _ _ = @Cert.KernelIdeal.cc0__router_body Bits _ _ := rfl
theorem cfgs_eq : cfgs = Cert.KernelIdeal.cfgs := rfl
theorem defs₀_eq : (Cert.Kernel.defs₀ (F := Bits)) = Cert.KernelIdeal.defs₀ (F := Bits) := by
  unfold Cert.Kernel.defs₀ Cert.KernelIdeal.defs₀
  refine congrArg (Defs.onTc (nD := nD) (τ := τ) (sig := sig) (Val := Elt Bits) (Λ := Λ₀)) ?_
  funext l a
  match l, a with
  | ⟨0, _⟩, (t, s) => rfl
theorem defs_eq : (Cert.Kernel.defs (F := Bits)) = Cert.KernelIdeal.defs (F := Bits) := by
  unfold Cert.Kernel.defs Cert.KernelIdeal.defs
  exact congrArg (Pipeline.defs pcfgs) defs₀_eq

theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.KernelIdeal.Hand.frame (F := Bits) m ρ

end Cert.Kernel.Hand

end
-- ==== Proof.Reference.Ops.lean ====
/- The reference program as a straight line of host operations, and the run of that line. -/
module

public import proofs.«01_k».proof.ReferenceIdeal
public import proofs.«01_k».proof.Proof.Gen.ReferenceIdeal
public import Idealize.ShloMosaic.Lib.Claim
public import Idealize.ShloMosaic.Lib.Quiescent
public import Idealize.ShloMosaic.Lib.StableHlo.RunRead

@[expose] public section

noncomputable section

namespace Cert.ReferenceIdeal.Hand

open Cert.ReferenceIdeal Idealize.ShloMosaic Idealize.ShloMosaic.StableHlo Idealize.SL.Sem

instance : Cert.ReferenceIdeal.Facts := Cert.ReferenceIdeal.Gen.facts

variable {F : FTy → Type} [FloatOps F]

/-- The operations of the reference in program order, with the proof that the program is their line. -/
def line : {ops : List (HloOp τ sig (Elt F)) // ∀ d, IsSeq (main (F := F) d) ops} := by
  apply Subtype.mk
  hlo_seq

/-- What every buffer of a device holds after the reference's line, from the launch contents. -/
abbrev Out (m : (ℓ : Loc nD τ sig) → Buf (Elt F) ℓ) (d : Dev nD) : Valuation τ sig (Elt F) :=
  after (line (F := F)).1 (launchContents m d)

/-- Every operation of the line touches only buffers of the core that runs the program. -/
theorem line_bufs : (line (F := F)).1.Forall fun op => op.bufs ⊆ tcRefs τ sig := by
  simp [line]

/-- No operation of the line allocates a buffer. -/
theorem line_fresh : ∀ op ∈ (line (F := F)).1, op.fresh = ∅ := by
  intro _ h; unfold line at h
  (repeat (cases h with | head => rfl | tail _ h => ?_)); exact nomatch h

/-- The reference runs, and every buffer ends with what the line leaves in it. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = Out m d (Proc.devRef .tc b) :=
  run_hlo _ _ (line (F := F)).2 (by decide) (by decide) line_bufs line_fresh m ρ

/-- The line writes neither argument. -/
theorem out_arg0 (m : (ℓ : Loc nD τ sig) → Buf (Elt F) ℓ) (d : Dev nD) :
    Out m d (Proc.devRef .tc main_arg0) = m ((d.tc : Thread nD τ).loc main_arg0) := by
  simp only [Out]; after_reads_simp

/-- The line writes neither argument. -/
theorem out_arg1 (m : (ℓ : Loc nD τ sig) → Buf (Elt F) ℓ) (d : Dev nD) :
    Out m d (Proc.devRef .tc main_arg1) = m ((d.tc : Thread nD τ).loc main_arg1) := by
  simp only [Out]; after_reads_simp

/-- The reference terminates, leaves its arguments as they were and every semaphore counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h =>
    ⟨fun c => ⟨(h c main_arg0).trans (out_arg0 m c), (h c main_arg1).trans (out_arg1 m c)⟩,
      sem_eq_zero_of_no_sems rfl r.2⟩

end Cert.ReferenceIdeal.Hand

end
-- ==== Proof.KernelIdeal.Logits.lean ====
/- The kernel's logits, read at an element: a token's inner product with an expert's weights. -/
module

public import proofs.«01_k».proof.Proof.KernelIdeal.Run
public import Idealize.ShloMosaic.Lib.Pointwise

@[expose] public section

noncomputable section

namespace Cert.KernelIdeal.Hand

open Cert.KernelIdeal Cert.KernelIdeal.Gen Idealize.ShloMosaic Idealize.ShloMosaic.TcCoe Idealize.SL.Sem

variable (c : Dev nD) (x : FVec Ideal S8192x2048 .f32) (W : FVec Ideal S2048x16 .f32)

/-- Row `r` of block `b` is row `1024 * b + r` of the tokens. -/
theorem blk_read (b : Fin 8) (r : Fin 1024) (k : Fin 2048) :
    ((blkM b).view.read (Elt Ideal) x : FVec Ideal S1024x2048 .f32) (ix2 r k)
      = x (ix2 ⟨1024 * b.val + r.val, by omega⟩ k) := by
  refine congrArg x ?_
  funext a
  fin_cases a
  · exact Fin.ext (show 1024 * b.val + 1 * r.val = 1024 * b.val + r.val by omega)
  · exact Fin.ext (show 0 + 1 * k.val = k.val by omega)

/-- A block's product. -/
theorem lgBlk_apply (b : Fin 8) (r : Fin 1024) (e : Fin 16) :
    lgBlk (F := Ideal) c x W b (ix2 r e)
      = ∑ k : Fin 2048, x (ix2 ⟨1024 * b.val + r.val, by omega⟩ k) * W (ix2 k e) := by
  unfold lgBlk
  pointwise
  exact Finset.sum_congr rfl fun k _ => congrArg (fun t : EReal => t * W (ix2 k e)) (blk_read x b r k)

/-- The logits. -/
theorem logits_apply (r : Fin 8192) (e : Fin 16) :
    logits (F := Ideal) c x W (ix2 r e) = ∑ k : Fin 2048, x (ix2 r k) * W (ix2 k e) := by
  unfold logits
  refine (lgBlk_apply c x W ⟨r.val / 1024, by omega⟩ ⟨r.val % 1024, Nat.mod_lt _ (by decide)⟩ e).trans ?_
  have h : (⟨1024 * (r.val / 1024) + r.val % 1024, by omega⟩ : Fin 8192) = r := Fin.ext (Nat.div_add_mod r.val 1024)
  simp only [h]

end Cert.KernelIdeal.Hand
-- ==== Proof.Math.Top2.lean ====
/- The two greatest of finitely many entries, ties to the lower position: what a stable descending sort puts at its first two places. -/
module

public import Idealize.ShloMosaic.Lib.SortFacts
public import Mathlib.Order.Fin.Basic

@[expose] public section

namespace Cert.Math

open Idealize.ShloMosaic

variable {α : Type} [LinearOrder α] {n : Nat}

/-- Position `a` beats position `b`: its entry is greater, or equal at a lower position. -/
def beats (f : Fin n → α) (a b : Fin n) : Bool := decide (f b < f a ∨ (f a = f b ∧ a < b))

/-- A stable insertion sort compares each entry only with later ones, so two relations that agree there sort alike. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- The stable sort by "greater entry first" is the sort by `beats`. -/
theorem sortedFrom_greater (f : Fin n → α) (R : Fin n → Fin n → Bool) (hR : ∀ a b, R a b = decide (f b < f a)) :
    sortedFrom R = sortedFrom (beats f) := by
  have h : sortPositions n R = sortPositions n (beats f) := by
    refine stableSort_congr_later _ _ _ ((List.pairwise_lt_finRange n).imp fun {a b} hab => ?_)
    rw [hR]
    unfold beats
    refine decide_eq_decide.2 ⟨Or.inl, fun h => h.elim id fun h => absurd h.2 (not_lt.2 hab.le)⟩
  funext k
  unfold sortedFrom
  rw [List.get_of_eq h]
  rfl

/-- No later place of the sort by `beats` beats an earlier one. -/
theorem sorted_not_beats (f : Fin n → α) (i j : Fin n) (hij : i < j) :
    ¬ (f (sortedFrom (beats f) i) < f (sortedFrom (beats f) j) ∨
      (f (sortedFrom (beats f) j) = f (sortedFrom (beats f) i) ∧ sortedFrom (beats f) j < sortedFrom (beats f) i)) := by
  have h := sortedFrom_noInversion (beats f) (beats f) ?_ (fun _ _ => id) ?_ i j hij
  · exact of_decide_eq_false h
  · intro a b hab
    have hab := of_decide_eq_true hab
    refine decide_eq_false fun hba => ?_
    rcases hab with h1 | ⟨h1, h2⟩ <;> rcases hba with h3 | ⟨h3, h4⟩
    · exact lt_asymm h1 h3
    · exact h1.ne h3.symm.symm
    · exact h3.ne h1
    · exact lt_asymm h2 h4
  · intro a b c hab hbc
    have hab := of_decide_eq_false hab
    have hbc := of_decide_eq_false hbc
    refine decide_eq_false fun hac => ?_
    simp only [not_or, not_and, not_lt] at hab hbc
    rcases hac with h | ⟨h, h'⟩
    · exact absurd h (not_lt.2 (hab.1.trans hbc.1))
    · have e1 : f a = f b := le_antisymm hab.1 (hbc.1.trans_eq h.symm)
      have e2 : f b = f c := e1.symm.trans h
      exact absurd h' (not_lt.2 ((hbc.2 e2).trans (hab.2 e1)))

/-- `i` holds the greatest entry among the positions of `P`, and is the lowest position of `P` that does. -/
def Best (P : Fin n → Prop) (f : Fin n → α) (i : Fin n) : Prop :=
  P i ∧ ∀ k, P k → f k ≤ f i ∧ (f k = f i → i ≤ k)

/-- At most one position is the best. -/
theorem Best.unique {P : Fin n → Prop} {f : Fin n → α} {i j : Fin n} (hi : Best P f i) (hj : Best P f j) : i = j := by
  have e : f j = f i := le_antisymm (hi.2 j hj.1).1 (hj.2 i hi.1).1
  exact le_antisymm ((hi.2 j hj.1).2 e) ((hj.2 i hi.1).2 e.symm)

/-- The position of the greatest entry. -/
def fst (f : Fin 16 → α) : Fin 16 := sortedFrom (beats f) 0

/-- The position of the second greatest entry. -/
def snd (f : Fin 16 → α) : Fin 16 := sortedFrom (beats f) 1

theorem snd_ne_fst (f : Fin 16 → α) : snd f ≠ fst f := fun h => absurd (sortedFrom_injective _ h) (by decide)

theorem fst_best (f : Fin 16 → α) : Best (fun _ => True) f (fst f) := by
  refine ⟨trivial, fun k _ => ?_⟩
  obtain ⟨j, rfl⟩ := sortedFrom_surjective (beats f) k
  rcases (Fin.zero_le j).eq_or_lt with rfl | hj
  · exact ⟨le_rfl, fun _ => le_rfl⟩
  · have h := sorted_not_beats f 0 j hj
    simp only [not_or, not_and, not_lt] at h
    exact h

theorem snd_best (f : Fin 16 → α) : Best (fun k => k ≠ fst f) f (snd f) := by
  refine ⟨snd_ne_fst f, fun k hk => ?_⟩
  obtain ⟨j, rfl⟩ := sortedFrom_surjective (beats f) k
  have h0 : j ≠ 0 := fun h => hk (by rw [h]; rfl)
  by_cases h1 : j = 1
  · subst h1; exact ⟨le_rfl, fun _ => le_rfl⟩
  · have h := sorted_not_beats f 1 j (by
      have a0 : j.val ≠ 0 := fun h => h0 (Fin.ext h)
      have a1 : j.val ≠ 1 := fun h => h1 (Fin.ext h)
      show (1 : Nat) < j.val
      omega)
    simp only [not_or, not_and, not_lt] at h
    exact h

end Cert.Math
-- ==== Proof.Math.Spec.lean ====
/- What the router computes, in plain formulas over the extended reals: a softmax over 16 experts, the two best experts of
   each row with their normalised weights, the second one kept while the expert has room, and the auxiliary loss. -/
module

public import proofs.«01_k».proof.Proof.Math.Top2
public import Idealize.ShloMosaic.PureOps.Ideal

@[expose] public section

noncomputable section

namespace Cert.Math

open Idealize.ShloMosaic

/-- The real number of a 32-bit word. -/
abbrev lit (w : BitVec 32) : EReal := Ideal.ofBits .f32 w

/-- The small number added to each divisor. -/
abbrev eps : EReal := lit 0x322BCC77#32

variable (l p : Fin 8192 → Fin 16 → EReal)

/-- The greatest logit of a row. -/
def rowMax (r : Fin 8192) : EReal := Finset.univ.fold max ⊥ (l r)

/-- The exponential of a logit less the row's greatest. -/
def expo (r : Fin 8192) (e : Fin 16) : EReal := Ideal.exp (l r e - rowMax l r)

/-- The softmax of a row. -/
def soft (r : Fin 8192) (e : Fin 16) : EReal := Ideal.div (expo l r e) (∑ k, expo l r k)

/-- The divisor of a row's two weights. -/
def wsum (r : Fin 8192) : EReal := p r (fst (p r)) + p r (snd (p r)) + eps

/-- The weight of the best expert. -/
def w1 (r : Fin 8192) : EReal := Ideal.div (p r (fst (p r))) (wsum p r)

/-- The weight of the second best expert. -/
def w2 (r : Fin 8192) : EReal := Ideal.div (p r (snd (p r))) (wsum p r)

/-- How many rows have expert `e` as their best. -/
def cnt (e : Fin 16) : EReal := ∑ r : Fin 8192, if fst (p r) = e then 1 else 0

/-- Whether the second best expert of a row still has room. -/
def Keep (r : Fin 8192) : Prop := cnt p (snd (p r)) < lit 0x44A00000#32

instance (r : Fin 8192) : Decidable (Keep p r) := inferInstanceAs (Decidable (cnt p (snd (p r)) < lit 0x44A00000#32))

/-- The weights of a row before they are normalised again. -/
def dm (r : Fin 8192) (e : Fin 16) : EReal :=
  (if fst (p r) = e then w1 p r else 0) + (if Keep p r then (if snd (p r) = e then w2 p r else 0) else 0)

/-- The dispatch weights. -/
def nd (r : Fin 8192) (e : Fin 16) : EReal := Ideal.div (dm p r e) ((∑ k, dm p r k) + eps)

/-- The auxiliary loss of logits `l` and dispatch weights `d`: the mean square logit and the experts' imbalance. -/
def loss (d : Fin 8192 → Fin 16 → EReal) : EReal :=
  lit 0x3A83126F#32 * Ideal.div (∑ r, ∑ e, l r e * l r e) (lit 0x48000000#32)
    + lit 0x3A83126F#32 * Ideal.div (∑ e, (Ideal.div (∑ r, d r e) (lit 0x46000000#32) - lit 0x3E000000#32)
        * (Ideal.div (∑ r, d r e) (lit 0x46000000#32) - lit 0x3E000000#32)) (lit 0x41800000#32)

end Cert.Math
-- ==== Proof.Math.Fold.lean ====
/- Maxima and first positions over the 16 experts, as folds, in terms of the best position. -/
module

public import proofs.«01_k».proof.Proof.Math.Spec
public import Idealize.ShloMosaic.PureOps.Reduce
public import Mathlib.Data.Finset.Fold

@[expose] public section

noncomputable section

namespace Cert.Math

open Idealize.ShloMosaic

/-- The fold of `max` is the best position's entry. -/
theorem fold_max_best {f : Fin 16 → EReal} {i : Fin 16} (h : Best (fun _ => True) f i) : Finset.univ.fold max ⊥ f = f i := by
  refine le_antisymm ((Finset.fold_max_le _).2 ⟨bot_le, fun k _ => (h.2 k trivial).1⟩) ?_
  exact (Finset.le_fold_max _).2 (Or.inr ⟨i, Finset.mem_univ _, le_rfl⟩)

/-- The signed minimum of two words, read as integers. -/
theorem toInt_minsi (x y : BitVec 32) : (IntOp.minsi x y).toInt = min x.toInt y.toInt := by
  unfold IntOp.minsi
  by_cases h : x.slt y
  · rw [if_pos h, min_eq_left (BitVec.slt_iff_toInt_lt.1 h).le]
  · rw [if_neg h, min_eq_right (not_lt.1 fun q => h (BitVec.slt_iff_toInt_lt.2 q))]

/-- The least of the positions at which `c` holds, found by a minimum of words with 16 where `c` fails. -/
theorem fold_minsi_first (c : Fin 16 → Prop) [DecidablePred c] (w : Fin 16 → BitVec 32)
    (hw : ∀ k, w k = if c k then BitVec.ofNat 32 k.val else 16#32) (i : Fin 16) (hi : c i) (hmin : ∀ k, c k → i ≤ k) :
    Finset.univ.fold IntOp.minsi 2147483647#32 w = BitVec.ofNat 32 i.val := by
  have ht : ∀ k : Fin 16, (BitVec.ofNat 32 k.val).toInt = (k.val : Int) := by decide
  apply BitVec.eq_of_toInt_eq
  rw [← Finset.fold_hom (op' := min) (m := BitVec.toInt) toInt_minsi, ht]
  refine le_antisymm ((Finset.fold_min_le _).2 (Or.inr ⟨i, Finset.mem_univ _, ?_⟩)) ((Finset.le_fold_min _).2 ⟨?_, fun k _ => ?_⟩)
  · show (w i).toInt ≤ _
    rw [hw, if_pos hi, ht]
  · have := i.isLt
    have e : (2147483647#32).toInt = 2147483647 := by decide
    rw [e]; omega
  · show _ ≤ (w k).toInt
    rw [hw]
    by_cases h : c k
    · rw [if_pos h, ht]; exact Int.ofNat_le.2 (hmin k h)
    · rw [if_neg h]
      have := i.isLt
      have e : (16#32).toInt = 16 := by decide
      rw [e]; omega

/-- With the best expert's entry replaced by a number below every entry, the best of the rest is the second best. -/
theorem snd_best_masked {f g : Fin 16 → EReal} {z : EReal} (hz : ∀ e, z < f e) (hg : ∀ e, g e = if fst f = e then z else f e) :
    Best (fun _ => True) g (snd f) := by
  have hs := snd_best f
  have e1 : g (snd f) = f (snd f) := by rw [hg, if_neg fun h => snd_ne_fst f h.symm]
  refine ⟨trivial, fun k _ => ?_⟩
  rw [e1, hg]
  by_cases h : fst f = k
  · rw [if_pos h]; exact ⟨(hz _).le, fun q => absurd q (hz _).ne⟩
  · rw [if_neg h]; exact hs.2 k fun q => h q.symm

end Cert.Math
-- ==== Proof.KernelIdeal.Value.lean ====
/- The kernel's three results, read at an element, are the formulas of the specification. -/
module

public import proofs.«01_k».proof.Proof.KernelIdeal.Run
public import proofs.«01_k».proof.Proof.Math.Fold
public import Idealize.ShloMosaic.Lib.Pointwise

@[expose] public section

noncomputable section

namespace Cert.KernelIdeal.Hand

open Cert.KernelIdeal Cert.KernelIdeal.Gen Idealize.ShloMosaic Cert.Math

/-- A matrix with a row for each token as a function of its two coordinates. -/
abbrev rows (L : FVec Ideal S8192x16 .f32) : Fin 8192 → Fin 16 → EReal := fun r e => L (ix2 r e)

/-- The word of minus infinity. -/
theorem lit_bot : Ideal.ofBits .f32 0xFF800000#32 = ⊥ := by
  simp [Ideal.ofBits, Ideal.ieee]

/-- A selection by a mask bit that is one exactly when `c` holds. -/
theorem select_mask {α : Type} (c : Prop) [Decidable c] (a b : α) :
    Scalar.select (if c then 1#1 else 0#1) a b = if c then a else b := by
  by_cases h : c
  · simp only [if_pos h]; rfl
  · simp only [if_neg h]; rfl

/-- A mask bit as a number. -/
theorem float_mask (c : Prop) [Decidable c] :
    (FloatOps.sitofp (F := Ideal) .f32 (BitVec.setWidth 32 (if c then 1#1 else 0#1)) : EReal) = if c then 1 else 0 := by
  show (((BitVec.setWidth 32 (if c then 1#1 else 0#1)).toInt : ℝ) : EReal) = _
  by_cases h : c
  · simp [if_pos h]
  · simp [if_neg h]

/-- Two expert numbers compared as words. -/
theorem cmpi_experts (e i : Fin 16) :
    IntOp.cmpi CmpIPredicate.eq (BitVec.ofNat 32 e.val) (BitVec.ofNat 32 i.val) = if i = e then 1#1 else 0#1 := by
  revert e i; decide

section

variable (L : FVec Ideal S8192x16 .f32) (r : Fin 8192) (e : Fin 16)

/-- The router weights. -/
theorem pay4_apply : k0_pay4 (F := Ideal) L (ix2 e r) = soft (rows L) r e := by
  unfold k0_pay4 k0_pay3
  pointwise
  rw [lit_bot]
  rfl

/-- The greatest router weight of a row. -/
theorem pay6_apply : k0_pay6 (F := Ideal) L (ix2 0 r) = soft (rows L) r (fst (soft (rows L) r)) := by
  unfold k0_pay6
  pointwise
  simp only [pay4_apply, lit_bot]
  exact fold_max_best (fst_best _)

/-- The mask of the best expert. -/
theorem pay7_apply : k0_pay7 (F := Ideal) L (ix2 e r) = if fst (soft (rows L) r) = e then 1#1 else 0#1 := by
  unfold k0_pay7
  pointwise
  simp only [pay4_apply, pay6_apply]
  rw [fold_minsi_first (fun x => soft (rows L) r x = soft (rows L) r (fst (soft (rows L) r))) _ (fun _ => rfl) (fst (soft (rows L) r)) rfl
    fun k hk => ((fst_best (soft (rows L) r)).2 k trivial).2 hk]
  exact cmpi_experts _ _

/-- The router weights with the best expert's struck out. -/
theorem pay8_apply : k0_pay8 (F := Ideal) L (ix2 e r)
    = if fst (soft (rows L) r) = e then lit 0xBF800000#32 else soft (rows L) r e := by
  unfold k0_pay8
  pointwise
  rw [pay7_apply, pay4_apply]
  exact select_mask _ _ _

/-- The second greatest router weight of a row. -/
theorem pay9_apply (hp : ∀ e, lit 0xBF800000#32 < soft (rows L) r e) :
    k0_pay9 (F := Ideal) L (ix2 0 r) = soft (rows L) r (snd (soft (rows L) r)) := by
  unfold k0_pay9
  pointwise
  simp only [lit_bot]
  rw [fold_max_best (snd_best_masked hp fun e => pay8_apply L r e), pay8_apply, if_neg fun h => snd_ne_fst _ h.symm]

/-- The experts whose weight, the best struck out, is the second greatest. -/
theorem pay10_apply (hp : ∀ e, lit 0xBF800000#32 < soft (rows L) r e) :
    k0_pay10 (F := Ideal) L (ix2 e r)
      = if k0_pay8 (F := Ideal) L (ix2 e r) = k0_pay8 (F := Ideal) L (ix2 (snd (soft (rows L) r)) r) then 1#1 else 0#1 := by
  unfold k0_pay10
  pointwise
  rw [pay9_apply L r hp]
  have h : k0_pay8 (F := Ideal) L (ix2 (snd (soft (rows L) r)) r) = soft (rows L) r (snd (soft (rows L) r)) := by
    rw [pay8_apply, if_neg fun h => snd_ne_fst _ h.symm]
  rw [h]
  by_cases q : k0_pay8 (F := Ideal) L (ix2 e r) = soft (rows L) r (snd (soft (rows L) r))
  · rw [if_pos q, decide_eq_true q]; rfl
  · rw [if_neg q, decide_eq_false q]; rfl

/-- The second best expert, found as the first one with the second greatest weight. -/
theorem second_apply (hp : ∀ e, lit 0xBF800000#32 < soft (rows L) r e) :
    Finset.univ.fold IntOp.minsi 2147483647#32
        (fun x : Fin 16 => Scalar.select (k0_pay10 (F := Ideal) L (ix2 x r)) (BitVec.ofNat 32 x.val) 16#32)
      = BitVec.ofNat 32 (snd (soft (rows L) r)).val := by
  refine fold_minsi_first (fun x => k0_pay8 (F := Ideal) L (ix2 x r) = k0_pay8 (F := Ideal) L (ix2 (snd (soft (rows L) r)) r)) _ (fun k => ?_) _ rfl fun k hk => ?_
  · rw [pay10_apply L r k hp, select_mask]
  · exact ((snd_best_masked (g := fun e => k0_pay8 (F := Ideal) L (ix2 e r)) hp fun e => pay8_apply L r e).2 k trivial).2 hk

end

/-- The dispatch weights, before the last transposition. -/
theorem pay11_apply (L : FVec Ideal S8192x16 .f32) (hp : ∀ r e, lit 0xBF800000#32 < soft (rows L) r e) (r : Fin 8192) (e : Fin 16) :
    k0_pay11 (F := Ideal) rowIota (k0_pay6 L) (k0_pay7 (F := Ideal) L) (k0_pay9 L) (k0_pay10 (F := Ideal) L) (ix2 e r) = nd (soft (rows L)) r e := by
  unfold k0_pay11
  pointwise
  simp only [pay6_apply, pay7_apply, pay9_apply L r (hp r), second_apply L r (hp r), cmpi_experts, select_mask, float_mask,
    Finset.sum_ite_eq, Finset.mem_univ, if_true]
  rfl

/-- The kernel's router weights. -/
theorem outRw_apply (L : FVec Ideal S8192x16 .f32) (r : Fin 8192) (e : Fin 16) :
    outRw (F := Ideal) L (ix2 r e) = soft (rows L) r e := by
  unfold outRw k0_pay5
  pointwise
  exact pay4_apply L r e

/-- The kernel's dispatch weights. -/
theorem outNd_apply (L : FVec Ideal S8192x16 .f32) (hp : ∀ r e, lit 0xBF800000#32 < soft (rows L) r e) (r : Fin 8192) (e : Fin 16) :
    outNd (F := Ideal) L (ix2 r e) = nd (soft (rows L)) r e := by
  unfold outNd k0_pay12
  pointwise
  exact pay11_apply L hp r e

/-- The kernel's loss. -/
theorem outLoss_apply (L : FVec Ideal S8192x16 .f32) (hp : ∀ r e, lit 0xBF800000#32 < soft (rows L) r e) (i : S_.Idx) :
    shapeCast S_ (outLoss (F := Ideal) L) shapeCasts_S1x1_S_ i = loss (rows L) (nd (soft (rows L))) := by
  pointwise
  unfold outLoss k0_pay1 k0_pay3
  pointwise
  simp only [pay11_apply L hp, Finset.univ_unique, Finset.sum_singleton]
  unfold loss
  rw [Finset.sum_comm]

end Cert.KernelIdeal.Hand
-- ==== Proof.Reference.Stages.lean ====
/- The reference's line, cut into named stages: the functions the stages apply. -/
module

public import proofs.«01_k».proof.Proof.Reference.Ops
public import Idealize.ShloMosaic.PureOps.Ideal

@[expose] public section

noncomputable section

namespace Cert.ReferenceIdeal.Hand

open Cert.ReferenceIdeal Cert.ReferenceIdeal.Facts₀ Idealize.ShloMosaic Idealize.ShloMosaic.StableHlo Idealize.SL.Sem

/-- What buffer `b` of device `d` holds at the end of the line. -/
abbrev At (m : (ℓ : Loc nD τ sig) → Buf (Elt Ideal) ℓ) (d : Dev nD) (b : Ref sig .tc) := Out m d (Proc.devRef .tc b)

/-- Negative indices counted from the end of `n` entries. -/
def wrap (n : BitVec 32) (v : IVec S8192 32) : IVec S8192 32 :=
  select (cmpi .slt v (broadcastInDim S8192 ![] bcast_S_S8192 (constantI S_ 32 0#32)))
    (addi v (broadcastInDim S8192 ![] bcast_S_S8192 (constantI S_ 32 n))) v

/-- A vector of indices as a column. -/
def col (v : IVec S8192 32) : IVec S8192x1 32 := broadcastInDim S8192x1 ![0] bcast_S8192_S8192x1_0 v

/-- Two columns of indices side by side. -/
def pair (a b : IVec S8192x1 32) : IVec S8192x2 32 :=
  concatenate S8192x2 1 [⟨S8192x1, a⟩, ⟨S8192x1, b⟩] concatenates_S8192x1_S8192x1_S8192x2_d1

theorem pair_eq (a b : IVec S8192x1 32) :
    concatenate S8192x2 1 [⟨S8192x1, a⟩, ⟨S8192x1, b⟩] concatenates_S8192x1_S8192x1_S8192x2_d1 = pair a b := rfl

/-- A number in every row. -/
def rowConst (w : BitVec 32) : FVec Ideal S8192 .f32 := broadcastInDim S8192 ![] bcast_S_S8192 (constant S_ .f32 w)

/-- A number at every expert. -/
def expertConst (w : BitVec 32) : FVec Ideal S16 .f32 := broadcastInDim S16 ![] bcast_S_S16 (constant S_ .f32 w)

/-- A vector over the rows, repeated for each expert. -/
def spread {α : Type} (x : S8192.Idx → α) : S8192x16.Idx → α :=
  broadcastInDim S8192x16 ![0, 1] bcast_S8192x1_S8192x16_0_1 (broadcastInDim S8192x1 ![0] bcast_S8192_S8192x1_0 x)

/-- The sum of each row. -/
def rowSum (x : FVec Ideal S8192x16 .f32) : FVec Ideal S8192 .f32 :=
  Host.reduceAdd x (constant S_ .f32 0x00000000#32) reducesTo_S8192x16_S8192_d1 h_S_

/-- The exponentials of the logits less their row's greatest. -/
def expOf (x : FVec Ideal S8192x16 .f32) : FVec Ideal S8192x16 .f32 :=
  Host.exp (subf x (spread (maximumf (rowConst 0xFF800000#32)
    (Host.reduce FloatOps.maximumf x (constant S_ .f32 0xFF800000#32) reducesTo_S8192x16_S8192_d1 h_S_))))

/-- The divisors of the two weights of each row. -/
def weightSum (v : FVec Ideal S8192x2 .f32) : FVec Ideal S8192x2 .f32 :=
  broadcastInDim S8192x2 ![0, 1] bcast_S8192x1_S8192x2_0_1
    (addf (broadcastInDim S8192x1 ![0] bcast_S8192_S8192x1_0
        (Host.reduceAdd v (constant S_ .f32 0x00000000#32) reducesTo_S8192x2_S8192_d1 h_S_))
      (broadcastInDim S8192x1 ![] bcast_S_S8192x1 (constant S_ .f32 0x322BCC77#32)))

/-- The first of two columns. -/
def colFst {α : Type} (v : S8192x2.Idx → α) : S8192.Idx → α :=
  shapeCast S8192 (extractStridedSlice S8192x1 ![0, 0] v slices_S8192x2_S8192x1_0_0) shapeCasts_S8192x1_S8192

/-- The second of two columns. -/
def colSnd {α : Type} (v : S8192x2.Idx → α) : S8192.Idx → α :=
  shapeCast S8192 (extractStridedSlice S8192x1 ![0, 1] v slices_S8192x2_S8192x1_0_1) shapeCasts_S8192x1_S8192

/-- The divisors of the dispatch weights. -/
def rowDivisor (x : FVec Ideal S8192x16 .f32) : FVec Ideal S8192x16 .f32 :=
  broadcastInDim S8192x16 ![0, 1] bcast_S8192x1_S8192x16_0_1
    (addf (broadcastInDim S8192x1 ![0] bcast_S8192_S8192x1_0 (rowSum x))
      (broadcastInDim S8192x1 ![] bcast_S_S8192x1 (constant S_ .f32 0x322BCC77#32)))

/-- How far each expert's share is from an eighth. -/
def imbalance (x : FVec Ideal S8192x16 .f32) : FVec Ideal S16 .f32 :=
  subf (Host.divf (Host.reduceAdd x (constant S_ .f32 0x00000000#32) reducesTo_S8192x16_S16_d0 h_S_) (expertConst 0x46000000#32))
    (expertConst 0x3E000000#32)

/-- The loss of logits `l` and dispatch weights `x`. -/
def lossOf (l x : FVec Ideal S8192x16 .f32) : FVec Ideal S_ .f32 :=
  addf (mulf (constant S_ .f32 0x3A83126F#32)
      (Host.divf (Host.reduceAdd (mulf l l) (constant S_ .f32 0x00000000#32) reducesTo_S8192x16_S_d0_1 h_S_) (constant S_ .f32 0x48000000#32)))
    (mulf (constant S_ .f32 0x3A83126F#32)
      (Host.divf (Host.reduceAdd (mulf (imbalance x) (imbalance x)) (constant S_ .f32 0x00000000#32) reducesTo_S16_S_d0 h_S_)
        (constant S_ .f32 0x41800000#32)))

end Cert.ReferenceIdeal.Hand
-- ==== Proof.Reference.Cells.lean ====
/- The reference's gathers and scatters, read at one element, for index words that name existing positions. -/
module

public import proofs.«01_k».proof.ReferenceIdeal
public import Idealize.ShloMosaic.Lib.Routing.OpsSet
public import Idealize.ShloMosaic.Lib.Routing.OpsPair
public import Idealize.ShloMosaic.PureOps.Ideal

@[expose] public section

noncomputable section

namespace Cert.ReferenceIdeal.Hand

open Cert.ReferenceIdeal Idealize.ShloMosaic Idealize.ShloMosaic.ValueIdx Idealize.ShloMosaic.Routing

variable [Cert.ReferenceIdeal.Facts]

/-- A word below 2³¹ read as a signed integer. -/
theorem toInt_word (n : Nat) (h : n < 2 ^ 31) : (BitVec.ofNat 32 n).toInt = (n : Int) :=
  StableHlo.Predicate.toInt_ofNat_small _ h

/-- Row `i` of the index column lands on entry `e` of the vector of 16 exactly when its word is `e`. -/
theorem vec_lands (idx : IVec S8192x1 32) (k : Fin 8192 → Fin 16) (hk : ∀ i, idx (ix2 i (0 : Fin 1)) = BitVec.ofNat 32 (k i).val)
    (i : Fin 8192) (e : Fin 16) :
    scatter_S16_S8192x1_S8192_n_0_0_1.resultIdx? (ix1 i : S8192.Idx) idx = some (ix1 e : S16.Idx) ↔ k i = e := by
  rw [resultIdx?_ix1]
  have hw : scatter_S16_S8192x1_S8192_n_0_0_1.window (ix1 i : S8192.Idx) 0 = 0 := rfl
  have hi : scatter_S16_S8192x1_S8192_n_0_0_1.siIdx (ix1 i : S8192.Idx) ⟨0, Nat.zero_lt_one⟩ = (ix2 i (0 : Fin 1) : S8192x1.Idx) := by
    funext b; fin_cases b <;> rfl
  have hs : scatter_S16_S8192x1_S8192_n_0_0_1.start (ix1 i : S8192.Idx) idx 0
      = (idx (scatter_S16_S8192x1_S8192_n_0_0_1.siIdx (ix1 i : S8192.Idx) ⟨0, Nat.zero_lt_one⟩)).toInt := rfl
  rw [hw, hs, hi, hk, toInt_word _ (by have := (k i).isLt; omega), Fin.ext_iff]
  omega

/-- Row `i` of the index pairs lands on `(r, e)` of the matrix exactly when `i = r` and its second word is `e`. -/
theorem mat_lands (idx : IVec S8192x2 32) (k : Fin 8192 → Fin 16) (hr : ∀ i, idx (ix2 i (0 : Fin 2)) = BitVec.ofNat 32 i.val)
    (hk : ∀ i, idx (ix2 i (1 : Fin 2)) = BitVec.ofNat 32 (k i).val) (i r : Fin 8192) (e : Fin 16) :
    scatter_S8192x16_S8192x2_S8192_n_01_01_1.resultIdx? (ix1 i : S8192.Idx) idx = some (ix2 r e : S8192x16.Idx) ↔ i = r ∧ k i = e := by
  rw [resultIdx?_ix2]
  have hw0 : scatter_S8192x16_S8192x2_S8192_n_01_01_1.window (ix1 i : S8192.Idx) 0 = 0 := rfl
  have hw1 : scatter_S8192x16_S8192x2_S8192_n_01_01_1.window (ix1 i : S8192.Idx) 1 = 0 := rfl
  have hi0 : scatter_S8192x16_S8192x2_S8192_n_01_01_1.siIdx (ix1 i : S8192.Idx) ⟨0, Nat.zero_lt_two⟩ = (ix2 i (0 : Fin 2) : S8192x2.Idx) := by
    funext b; fin_cases b <;> rfl
  have hi1 : scatter_S8192x16_S8192x2_S8192_n_01_01_1.siIdx (ix1 i : S8192.Idx) ⟨1, Nat.one_lt_two⟩ = (ix2 i (1 : Fin 2) : S8192x2.Idx) := by
    funext b; fin_cases b <;> rfl
  have hs0 : scatter_S8192x16_S8192x2_S8192_n_01_01_1.start (ix1 i : S8192.Idx) idx 0
      = (idx (scatter_S8192x16_S8192x2_S8192_n_01_01_1.siIdx (ix1 i : S8192.Idx) ⟨0, Nat.zero_lt_two⟩)).toInt := rfl
  have hs1 : scatter_S8192x16_S8192x2_S8192_n_01_01_1.start (ix1 i : S8192.Idx) idx 1
      = (idx (scatter_S8192x16_S8192x2_S8192_n_01_01_1.siIdx (ix1 i : S8192.Idx) ⟨1, Nat.one_lt_two⟩)).toInt := rfl
  rw [hw0, hw1, hs0, hs1, hi0, hi1, hr, hk, toInt_word _ (by have := (k i).isLt; omega), toInt_word _ (by have := i.isLt; omega),
    Fin.ext_iff, Fin.ext_iff]
  omega

/-- A row number as an index of a vector with one entry per row. -/
def rowIdx : Fin 8192 ≃ S8192.Idx where
  toFun i := ix1 i
  invFun j := j 0
  left_inv _ := rfl
  right_inv j := (eq_ix1 j).symm

/-- The accumulating scatter into the vector of 16: each entry gains the updates of the rows that name it. -/
theorem scatterAdd_vec (x : FVec Ideal S16 .f32) (idx : IVec S8192x1 32) (upd : FVec Ideal S8192 .f32) (k : Fin 8192 → Fin 16)
    (hk : ∀ i, idx (ix2 i (0 : Fin 1)) = BitVec.ofNat 32 (k i).val) (e : Fin 16) :
    Host.scatterAdd scatter_S16_S8192x1_S8192_n_0_0_1 x idx upd (ix1 e)
      = x (ix1 e) + ∑ i : Fin 8192, if k i = e then upd (ix1 i) else (0 : EReal) := by
  show x (ix1 e) + ∑ j ∈ Finset.univ.filter (fun j => scatter_S16_S8192x1_S8192_n_0_0_1.resultIdx? j idx = some (ix1 e)), upd j = _
  rw [Finset.sum_filter, ← Equiv.sum_comp rowIdx]
  refine congrArg (x (ix1 e) + ·) (Finset.sum_congr rfl fun i _ => ?_)
  have hl := vec_lands idx k hk i e
  by_cases h : k i = e
  · rw [if_pos h]; exact if_pos (hl.2 h)
  · rw [if_neg h]; exact if_neg fun q => h (hl.1 q)

/-- The setting scatter into the matrix, one element in each row: that element becomes the update, the others stay. -/
theorem scatter_mat {α : Type} (x : S8192x16.Idx → α) (idx : IVec S8192x2 32) (upd : S8192.Idx → α) (k : Fin 8192 → Fin 16)
    (hr : ∀ i, idx (ix2 i (0 : Fin 2)) = BitVec.ofNat 32 i.val)
    (hk : ∀ i, idx (ix2 i (1 : Fin 2)) = BitVec.ofNat 32 (k i).val) (r : Fin 8192) (e : Fin 16) :
    Host.scatter scatter_S8192x16_S8192x2_S8192_n_01_01_1 (fun _ b => b) x idx upd (ix2 r e)
      = if k r = e then upd (ix1 r) else x (ix2 r e) := by
  have hl : ∀ n, scatter_S8192x16_S8192x2_S8192_n_01_01_1.resultIdx? (S8192.rowMajor.symm n) idx = some (ix2 r e : S8192x16.Idx)
      ↔ (decide ((S8192.rowMajor.symm n 0).val = r.val ∧ k r = e)) = true := fun n => by
    obtain ⟨i, hi⟩ : ∃ i : Fin 8192, S8192.rowMajor.symm n = ix1 i := ⟨_, eq_ix1 _⟩
    rw [hi, mat_lands idx k hr hk, decide_eq_true_iff]
    show i = r ∧ k i = e ↔ i.val = r.val ∧ k r = e
    rw [← Fin.ext_iff]
    constructor <;> rintro ⟨rfl, h⟩ <;> exact ⟨rfl, h⟩
  rw [scatter_set_lands _ x idx upd (ix2 r e) _ hl (upd (ix1 r)) fun n hn => by
    obtain ⟨i, hi⟩ : ∃ i : Fin 8192, S8192.rowMajor.symm n = ix1 i := ⟨_, eq_ix1 _⟩
    rw [decide_eq_true_iff, hi] at hn
    rw [hi]
    exact congrArg (fun a : Fin 8192 => upd (ix1 a)) (Fin.ext hn.1)]
  refine if_congr ?_ rfl rfl
  rw [List.any_eq_true]
  constructor
  · rintro ⟨n, _, hn⟩; exact (of_decide_eq_true hn).2
  · intro h
    refine ⟨S8192.rowMajor (ix1 r), List.mem_finRange _, decide_eq_true ?_⟩
    rw [Equiv.symm_apply_apply]
    exact ⟨rfl, h⟩

/-- The gather from the vector of 16. -/
theorem gather_vec {α : Type} (x : S16.Idx → α) (idx : IVec S8192x1 32) (k : Fin 8192 → Fin 16)
    (hk : ∀ i, idx (ix2 i (0 : Fin 1)) = BitVec.ofNat 32 (k i).val) (r : Fin 8192) :
    Host.gather gather_S16_S8192x1_S8192_n_0_n_n_0_1_1 x idx (ix1 r) = x (ix1 (k r)) :=
  gather_take1 gather_S16_S8192x1_S8192_n_0_n_n_0_1_1 rfl rfl rfl rfl x idx r (k r) (hk r) (by norm_num)

/-- The gather from the matrix, one element of each row. -/
theorem gather_mat {α : Type} (x : S8192x16.Idx → α) (idx : IVec S8192x2 32) (k : Fin 8192 → Fin 16)
    (hr : ∀ i, idx (ix2 i (0 : Fin 2)) = BitVec.ofNat 32 i.val)
    (hk : ∀ i, idx (ix2 i (1 : Fin 2)) = BitVec.ofNat 32 (k i).val) (r : Fin 8192) :
    Host.gather gather_S8192x16_S8192x2_S8192_n_01_n_n_01_1_11 x idx (ix1 r) = x (ix2 r (k r)) := by
  unfold Host.gather
  refine congrArg x (funext fun a => Fin.ext ?_)
  have hi0 : gather_S8192x16_S8192x2_S8192_n_01_n_n_01_1_11.siIdx (ix1 r : S8192.Idx) ⟨0, Nat.zero_lt_two⟩ = (ix2 r (0 : Fin 2) : S8192x2.Idx) := by
    funext b; fin_cases b <;> rfl
  have hi1 : gather_S8192x16_S8192x2_S8192_n_01_n_n_01_1_11.siIdx (ix1 r : S8192.Idx) ⟨1, Nat.one_lt_two⟩ = (ix2 r (1 : Fin 2) : S8192x2.Idx) := by
    funext b; fin_cases b <;> rfl
  fin_cases a
  · show min (idx (gather_S8192x16_S8192x2_S8192_n_01_n_n_01_1_11.siIdx (ix1 r : S8192.Idx) ⟨0, Nat.zero_lt_two⟩)).toInt.toNat (8192 - 1) + 0 + 0 = r.val
    rw [hi0, hr, toInt_word _ (by have := r.isLt; omega)]
    have := r.isLt
    omega
  · show min (idx (gather_S8192x16_S8192x2_S8192_n_01_n_n_01_1_11.siIdx (ix1 r : S8192.Idx) ⟨1, Nat.one_lt_two⟩)).toInt.toNat (16 - 1) + 0 + 0 = (k r).val
    rw [hi1, hk, toInt_word _ (by have := (k r).isLt; omega)]
    have := (k r).isLt
    omega

end Cert.ReferenceIdeal.Hand
-- ==== Proof.Reference.Read.lean ====
/- The reference's stages, read at an element. -/
module

public import proofs.«01_k».proof.Proof.Reference.Stages
public import proofs.«01_k».proof.Proof.Reference.Cells
public import proofs.«01_k».proof.Proof.Math.Spec
public import Idealize.ShloMosaic.Lib.Pointwise

@[expose] public section

noncomputable section

namespace Cert.ReferenceIdeal.Hand

open Cert.ReferenceIdeal Cert.ReferenceIdeal.Facts₀ Idealize.ShloMosaic Idealize.ShloMosaic.StableHlo Idealize.SL.Sem Cert.Math

/-- A matrix with a row for each token as a function of its two coordinates. -/
abbrev mat (x : FVec Ideal S8192x16 .f32) : Fin 8192 → Fin 16 → EReal := fun r e => x (ix2 r e)

/-- The softmax of each row. -/
theorem soft_read (x : FVec Ideal S8192x16 .f32) (r : Fin 8192) (e : Fin 16) :
    Host.divf (expOf x) (spread (rowSum (expOf x))) (ix2 r e) = soft (mat x) r e := by
  unfold expOf spread rowSum rowConst
  pointwise
  have h : Ideal.ofBits FTy.f32 4286578688#32 = ⊥ := by simp [Ideal.ofBits, Ideal.ieee]
  simp only [h, bot_le, max_eq_right]
  rfl

/-- A nonnegative word is left alone. -/
theorem wrap_word (n : BitVec 32) (k : Nat) (hk : k < 2 ^ 31) :
    Scalar.select (IntOp.cmpi CmpIPredicate.slt (BitVec.ofNat 32 k) 0#32) (IntOp.addi (BitVec.ofNat 32 k) n) (BitVec.ofNat 32 k)
      = BitVec.ofNat 32 k := by
  have h : IntOp.cmpi CmpIPredicate.slt (BitVec.ofNat 32 k) 0#32 = 0#1 := by
    show BitVec.ofBool ((BitVec.ofNat 32 k).slt 0#32) = 0#1
    rw [BitVec.slt, toInt_word k hk, BitVec.toInt_zero, decide_eq_false (by omega)]
    rfl
  rw [h]
  rfl

/-- The column of indices of a vector of experts. -/
theorem col_read (n : BitVec 32) (v : IVec S8192 32) (k : Fin 8192 → Fin 16) (h : ∀ r, v (ix1 r) = BitVec.ofNat 32 (k r).val) (r : Fin 8192) :
    col (wrap n v) (ix2 r 0) = BitVec.ofNat 32 (k r).val := by
  unfold col wrap
  pointwise
  rw [h]
  exact wrap_word n _ (by have := (k r).isLt; omega)

/-- The column of the row numbers. -/
theorem iota_read (r : Fin 8192) : col (wrap 8192#32 (iotaInDim S8192 32 0)) (ix2 r 0) = BitVec.ofNat 32 r.val := by
  unfold col wrap
  pointwise
  exact wrap_word _ _ (by have := r.isLt; omega)

theorem pair_read0 (a b : IVec S8192x1 32) (r : Fin 8192) : pair a b (ix2 r 0) = a (ix2 r 0) := by
  unfold pair
  pointwise

theorem pair_read1 (a b : IVec S8192x1 32) (r : Fin 8192) : pair a b (ix2 r 1) = b (ix2 r 0) := by
  unfold pair
  pointwise

theorem colFst_read {α : Type} (v : S8192x2.Idx → α) (r : Fin 8192) : colFst v (ix1 r) = v (ix2 r 0) := by
  unfold colFst
  pointwise

theorem colSnd_read {α : Type} (v : S8192x2.Idx → α) (r : Fin 8192) : colSnd v (ix1 r) = v (ix2 r 1) := by
  unfold colSnd
  pointwise

/-- The two weights of a row. -/
theorem weight_read (v : FVec Ideal S8192x2 .f32) (r : Fin 8192) (k : Fin 2) :
    Host.divf v (weightSum v) (ix2 r k) = Ideal.div (v (ix2 r k)) (v (ix2 r 0) + v (ix2 r 1) + eps) := by
  unfold weightSum
  pointwise
  rw [Fin.sum_univ_two]

theorem rowSum_read (x : FVec Ideal S8192x16 .f32) (r : Fin 8192) : rowSum x (ix1 r) = ∑ k, mat x r k := by
  unfold rowSum
  pointwise

theorem spread_read {α : Type} (x : S8192.Idx → α) (r : Fin 8192) (e : Fin 16) : spread x (ix2 r e) = x (ix1 r) := by
  unfold spread
  pointwise

/-- The last normalisation. -/
theorem nd_read (x : FVec Ideal S8192x16 .f32) (r : Fin 8192) (e : Fin 16) :
    Host.divf x (rowDivisor x) (ix2 r e) = Ideal.div (mat x r e) ((∑ k, mat x r k) + eps) := by
  unfold rowDivisor rowSum
  pointwise

/-- The loss. -/
theorem loss_read (l x : FVec Ideal S8192x16 .f32) (i : S_.Idx) : lossOf l x i = loss (mat l) (mat x) := by
  unfold lossOf imbalance expertConst
  pointwise
  rfl

/-- The stable sort of a row by "greater entry first". -/
theorem order_read (x : FVec Ideal S8192x16 .f32) (r : Fin 8192) :
    sortedFrom (fun k k' : Fin 16 => FloatOps.cmpfTotal (F := Ideal) (φ := .f32) .gt (x (ix2 r k)) (x (ix2 r k')) == 1#1)
      = sortedFrom (beats (mat x r)) := by
  refine sortedFrom_greater (mat x r) _ fun a b => ?_
  show (BitVec.ofBool (decide (x (ix2 r b) < x (ix2 r a))) == 1#1) = _
  cases decide (x (ix2 r b) < x (ix2 r a)) <;> rfl

/-- Moving along the experts of a row. -/
theorem along_read (r : Fin 8192) (e k : Fin 16) : Shape.Idx.along (s := S8192x16) (ix2 r e) (1 : Fin 2) k = (ix2 r k : S8192x16.Idx) := by
  funext a
  fin_cases a <;> rfl

/-- The slice of the first two experts. -/
theorem slice_read {α : Type} (y : S8192x16.Idx → α) (r : Fin 8192) (k : Fin 2) :
    extractStridedSlice S8192x2 (fun _ => 0) y sliceFits_S8192x16_S8192x2 (ix2 r k) = y (ix2 r ⟨k.val, by omega⟩) := by
  refine congrArg y (funext fun a => ?_)
  fin_cases a <;> exact Fin.ext (Nat.zero_add _)

/-- The values of the two best of each row. -/
theorem topValues_read (x : FVec Ideal S8192x16 .f32) (r : Fin 8192) (k : Fin 2) :
    (Host.topK S8192x2 1 (FloatOps.cmpfTotal (F := Ideal) (φ := .f32) .gt) x sliceFits_S8192x16_S8192x2).1 (ix2 r k)
      = mat x r (sortedFrom (beats (mat x r)) ⟨k.val, by omega⟩) := by
  unfold Host.topK
  dsimp only
  rw [slice_read]
  show x (Shape.Idx.along (s := S8192x16) (ix2 r ⟨k.val, _⟩) (1 : Fin 2) (sortedFrom (fun a b : Fin 16 =>
    FloatOps.cmpfTotal (F := Ideal) (φ := .f32) .gt (x (Shape.Idx.along (s := S8192x16) (ix2 r ⟨k.val, _⟩) (1 : Fin 2) a))
      (x (Shape.Idx.along (s := S8192x16) (ix2 r ⟨k.val, _⟩) (1 : Fin 2) b)) == 1#1) ⟨k.val, _⟩)) = _
  simp only [along_read]
  exact (congrArg x (along_read r _ _)).trans (congrArg (fun s : Fin 16 → Fin 16 => mat x r (s ⟨k.val, by omega⟩)) (order_read x r))

/-- What the sort carries along. -/
theorem carried_read (x : FVec Ideal S8192x16 .f32) (y : IVec S8192x16 32) (r : Fin 8192) (e : Fin 16) :
    (Host.sort2 S8192x16 1 (fun l r => FloatOps.cmpfTotal (F := Ideal) (φ := .f32) .gt l.1 r.1) x y).2 (ix2 r e)
      = y (ix2 r (sortedFrom (beats (mat x r)) e)) := by
  show y (Shape.Idx.along (s := S8192x16) (ix2 r e) (1 : Fin 2) (sortedFrom (fun a b : Fin 16 =>
    FloatOps.cmpfTotal (F := Ideal) (φ := .f32) .gt (x (Shape.Idx.along (s := S8192x16) (ix2 r e) (1 : Fin 2) a))
      (x (Shape.Idx.along (s := S8192x16) (ix2 r e) (1 : Fin 2) b)) == 1#1) e)) = _
  simp only [along_read]
  exact (congrArg y (along_read r _ _)).trans (congrArg (fun s : Fin 16 → Fin 16 => y (ix2 r (s e))) (order_read x r))

/-- The positions of the two best of each row. -/
theorem topIndices_read (x : FVec Ideal S8192x16 .f32) (r : Fin 8192) (k : Fin 2) :
    (Host.topK S8192x2 1 (FloatOps.cmpfTotal (F := Ideal) (φ := .f32) .gt) x sliceFits_S8192x16_S8192x2).2 (ix2 r k)
      = BitVec.ofNat 32 (sortedFrom (beats (mat x r)) ⟨k.val, by omega⟩).val := by
  unfold Host.topK
  dsimp only
  rw [slice_read, carried_read]
  rfl

end Cert.ReferenceIdeal.Hand
-- ==== Proof.Reference.StepsSoft.lean ====
/- The reference's line: the softmax, the two best of each row and their weights. -/
module

public import proofs.«01_k».proof.Proof.Reference.Stages
public import Idealize.ShloMosaic.Lib.StableHlo.ReadAt

@[expose] public section

noncomputable section

namespace Cert.ReferenceIdeal.Hand

open Cert.ReferenceIdeal Cert.ReferenceIdeal.Facts₀ Idealize.ShloMosaic Idealize.ShloMosaic.StableHlo Idealize.SL.Sem

variable (m : (ℓ : Loc nD τ sig) → Buf (Elt Ideal) ℓ) (d : Dev nD)

theorem step_v2 : (At m d main_v2 : FVec Ideal S8192x16 .f32)
    = Host.dotGeneral (F := Ideal) (φ₁ := .f32) (φ₂ := .f32) dot_S8192x2048_S2048x16_S8192x16_1_0_0_1_n_n none
        (shapeCast (α := Ideal .f32) (s := S2x4096x2048) S8192x2048 (launchContents m d (Proc.devRef .tc main_arg0) : FVec Ideal S2x4096x2048 .f32) shapeCasts_S2x4096x2048_S8192x2048)
        (transpose (α := Ideal .f32) (s := S16x2048) S2048x16 [1, 0] (launchContents m d (Proc.devRef .tc main_arg1) : FVec Ideal S16x2048 .f32) transposes_S16x2048_S2048x16_1_0) := by
  simp only [At, Out]; after_reads_simp [pair_eq]
  all_goals try simp -implicitDefEqProofs only [TRef.toBuf, TRef.ofBuf, cast_cast, cast_eq, id_eq]
  all_goals clean_types
  all_goals rfl

theorem step_v13 : (At m d main_v13 : FVec Ideal S8192x16 .f32)
    = Host.divf (expOf (At m d main_v2 : FVec Ideal S8192x16 .f32)) (spread (rowSum (expOf (At m d main_v2 : FVec Ideal S8192x16 .f32)))) := by
  simp only [At, Out, expOf, rowSum, spread, rowConst]; after_reads_simp [pair_eq]

theorem step_values : (At m d main_values : FVec Ideal S8192x2 .f32)
    = (Host.topK S8192x2 1 (FloatOps.cmpfTotal (F := Ideal) (φ := .f32) .gt) (At m d main_v13 : FVec Ideal S8192x16 .f32) sliceFits_S8192x16_S8192x2).1 := by
  simp only [At, Out]; after_reads_simp [pair_eq]

theorem step_indices : (At m d main_indices : IVec S8192x2 32)
    = (Host.topK S8192x2 1 (FloatOps.cmpfTotal (F := Ideal) (φ := .f32) .gt) (At m d main_v13 : FVec Ideal S8192x16 .f32) sliceFits_S8192x16_S8192x2).2 := by
  simp only [At, Out]; after_reads_simp [pair_eq]

theorem step_v19 : (At m d main_v19 : FVec Ideal S8192x2 .f32)
    = Host.divf (At m d main_values : FVec Ideal S8192x2 .f32) (weightSum (At m d main_values : FVec Ideal S8192x2 .f32)) := by
  simp only [At, Out, weightSum]; after_reads_simp [pair_eq]

theorem step_v24 : (At m d main_v24 : IVec S8192 32) = colFst (At m d main_indices : IVec S8192x2 32) := by
  simp only [At, Out, colFst]; after_reads_simp [pair_eq]
  all_goals try simp -implicitDefEqProofs only [TRef.toBuf, TRef.ofBuf, cast_cast, cast_eq, id_eq]
  all_goals clean_types
  all_goals rfl

theorem step_v76 : (At m d main_v76 : IVec S8192 32) = colSnd (At m d main_indices : IVec S8192x2 32) := by
  simp only [At, Out, colSnd]; after_reads_simp [pair_eq]
  all_goals try simp -implicitDefEqProofs only [TRef.toBuf, TRef.ofBuf, cast_cast, cast_eq, id_eq]
  all_goals clean_types
  all_goals rfl

end Cert.ReferenceIdeal.Hand
-- ==== Proof.Reference.StepsFirst.lean ====
/- The reference's line: the best expert of each row takes its weight. -/
module

public import proofs.«01_k».proof.Proof.Reference.Stages
public import Idealize.ShloMosaic.Lib.StableHlo.ReadAt

@[expose] public section

noncomputable section

namespace Cert.ReferenceIdeal.Hand

open Cert.ReferenceIdeal Cert.ReferenceIdeal.Facts₀ Idealize.ShloMosaic Idealize.ShloMosaic.StableHlo Idealize.SL.Sem

variable (m : (ℓ : Loc nD τ sig) → Buf (Elt Ideal) ℓ) (d : Dev nD)

theorem step_v33 : (At m d main_v33 : IVec S8192 1)
    = cmpf .olt (Host.gather gather_S16_S8192x1_S8192_n_0_n_n_0_1_1 (expertConst 0x00000000#32) (col (wrap 16#32 (At m d main_v24 : IVec S8192 32))))
        (rowConst 0x44A00000#32) := by
  simp only [At, Out, expertConst, rowConst, col, wrap]; after_reads_simp [pair_eq]

theorem step_v43 : (At m d main_v43 : FVec Ideal S16 .f32)
    = addf (expertConst 0x00000000#32)
        (Host.scatterAdd scatter_S16_S8192x1_S8192_n_0_0_1 (expertConst 0x00000000#32) (col (wrap 16#32 (At m d main_v24 : IVec S8192 32)))
          (uitofp .f32 (At m d main_v33 : IVec S8192 1))) := by
  simp only [At, Out, expertConst, col, wrap]; after_reads_simp [pair_eq]

theorem step_v60 : (At m d main_v60 : FVec Ideal S8192 .f32)
    = select (α := Ideal .f32) (At m d main_v33 : IVec S8192 1) (colFst (At m d main_v19 : FVec Ideal S8192x2 .f32)) (At m d main_v57 : FVec Ideal S8192 .f32) := by
  simp only [At, Out, colFst]; after_reads_simp [pair_eq]
  all_goals try simp -implicitDefEqProofs only [TRef.toBuf, TRef.ofBuf, cast_cast, cast_eq, id_eq]
  all_goals clean_types
  all_goals rfl

theorem step_v73 : (At m d main_v73 : IVec S8192x2 32)
    = pair (col (wrap 8192#32 (iotaInDim S8192 32 0))) (col (wrap 16#32 (At m d main_v24 : IVec S8192 32))) := by
  simp only [At, Out, col, wrap]; after_reads_simp [pair_eq]

theorem step_v74 : (At m d main_v74 : FVec Ideal S8192x16 .f32)
    = Host.scatter scatter_S8192x16_S8192x2_S8192_n_01_01_1 (fun _ b => b)
        (broadcastInDim S8192x16 ![] bcast_S_S8192x16 (constant (F := Ideal) S_ .f32 0x00000000#32))
        (At m d main_v73 : IVec S8192x2 32) (At m d main_v60 : FVec Ideal S8192 .f32) := by
  simp only [At, Out]; after_reads_simp [pair_eq]
  all_goals try simp -implicitDefEqProofs only [TRef.toBuf, TRef.ofBuf, cast_cast, cast_eq, id_eq]
  all_goals clean_types
  all_goals rfl

end Cert.ReferenceIdeal.Hand
-- ==== Proof.Reference.StepsSecond.lean ====
/- The reference's line: the second best expert of each row takes its weight while it has room. -/
module

public import proofs.«01_k».proof.Proof.Reference.Stages
public import Idealize.ShloMosaic.Lib.StableHlo.ReadAt

@[expose] public section

noncomputable section

namespace Cert.ReferenceIdeal.Hand

open Cert.ReferenceIdeal Cert.ReferenceIdeal.Facts₀ Idealize.ShloMosaic Idealize.ShloMosaic.StableHlo Idealize.SL.Sem

variable (m : (ℓ : Loc nD τ sig) → Buf (Elt Ideal) ℓ) (d : Dev nD)

theorem step_v85 : (At m d main_v85 : IVec S8192 1)
    = cmpf .olt (Host.gather gather_S16_S8192x1_S8192_n_0_n_n_0_1_1 (At m d main_v43 : FVec Ideal S16 .f32) (col (wrap 16#32 (At m d main_v76 : IVec S8192 32))))
        (rowConst 0x44A00000#32) := by
  simp only [At, Out, rowConst, col, wrap]; after_reads_simp [pair_eq]

theorem step_v108 : (At m d main_v108 : IVec S8192x2 32)
    = pair (col (wrap 8192#32 (iotaInDim S8192 32 0))) (col (wrap 16#32 (At m d main_v76 : IVec S8192 32))) := by
  simp only [At, Out, col, wrap]; after_reads_simp [pair_eq]

theorem step_v112 : (At m d main_v112 : FVec Ideal S8192 .f32)
    = select (α := Ideal .f32) (At m d main_v85 : IVec S8192 1) (colSnd (At m d main_v19 : FVec Ideal S8192x2 .f32))
        (Host.gather gather_S8192x16_S8192x2_S8192_n_01_n_n_01_1_11 (At m d main_v74 : FVec Ideal S8192x16 .f32) (At m d main_v108 : IVec S8192x2 32)) := by
  simp only [At, Out, colSnd]; after_reads_simp [pair_eq]
  all_goals try simp -implicitDefEqProofs only [TRef.toBuf, TRef.ofBuf, cast_cast, cast_eq, id_eq]
  all_goals clean_types
  all_goals rfl

theorem step_v125 : (At m d main_v125 : IVec S8192x2 32)
    = pair (col (wrap 8192#32 (iotaInDim S8192 32 0))) (col (wrap 16#32 (At m d main_v76 : IVec S8192 32))) := by
  simp only [At, Out, col, wrap]; after_reads_simp [pair_eq]

theorem step_v126 : (At m d main_v126 : FVec Ideal S8192x16 .f32)
    = Host.scatter scatter_S8192x16_S8192x2_S8192_n_01_01_1 (fun _ b => b) (At m d main_v74 : FVec Ideal S8192x16 .f32)
        (At m d main_v125 : IVec S8192x2 32) (At m d main_v112 : FVec Ideal S8192 .f32) := by
  simp only [At, Out]; after_reads_simp [pair_eq]
  all_goals try simp -implicitDefEqProofs only [TRef.toBuf, TRef.ofBuf, cast_cast, cast_eq, id_eq]
  all_goals clean_types
  all_goals rfl

end Cert.ReferenceIdeal.Hand
-- ==== Proof.Reference.StepsLast.lean ====
/- The reference's line: the dispatch weights normalised and the loss. -/
module

public import proofs.«01_k».proof.Proof.Reference.Stages
public import Idealize.ShloMosaic.Lib.StableHlo.ReadAt

@[expose] public section

noncomputable section

namespace Cert.ReferenceIdeal.Hand

open Cert.ReferenceIdeal Cert.ReferenceIdeal.Facts₀ Idealize.ShloMosaic Idealize.ShloMosaic.StableHlo Idealize.SL.Sem

variable (m : (ℓ : Loc nD τ sig) → Buf (Elt Ideal) ℓ) (d : Dev nD)

theorem step_v129 : (At m d main_v129 : IVec S8192 1)
    = cmpf .oeq (rowSum (At m d main_v126 : FVec Ideal S8192x16 .f32)) (rowConst 0x00000000#32) := by
  simp only [At, Out, rowSum, rowConst]; after_reads_simp [pair_eq]

theorem step_v141 : (At m d main_v141 : FVec Ideal S8192x16 .f32)
    = select (α := Ideal .f32) (andi (spread (At m d main_v129 : IVec S8192 1)) (At m d main_v139 : IVec S8192x16 1))
        (broadcastInDim S8192x16 ![] bcast_S_S8192x16 (constant S_ .f32 0x3F800000#32)) (At m d main_v126 : FVec Ideal S8192x16 .f32) := by
  simp only [At, Out, spread]; after_reads_simp [pair_eq]
  all_goals try simp -implicitDefEqProofs only [TRef.toBuf, TRef.ofBuf, cast_cast, cast_eq, id_eq]
  all_goals clean_types
  all_goals rfl

theorem step_v147 : (At m d main_v147 : FVec Ideal S8192x16 .f32)
    = Host.divf (At m d main_v141 : FVec Ideal S8192x16 .f32) (rowDivisor (At m d main_v141 : FVec Ideal S8192x16 .f32)) := by
  simp only [At, Out, rowDivisor, rowSum]; after_reads_simp [pair_eq]

theorem step_v161 : (At m d main_v161 : FVec Ideal S_ .f32)
    = lossOf (At m d main_v2 : FVec Ideal S8192x16 .f32) (At m d main_v147 : FVec Ideal S8192x16 .f32) := by
  simp only [At, Out, lossOf, imbalance, expertConst]; after_reads_simp [pair_eq]

end Cert.ReferenceIdeal.Hand
-- ==== Proof.Reference.Value.lean ====
/- The reference's three results, read at an element, are the formulas of the specification. -/
module

public import proofs.«01_k».proof.Proof.Reference.Read
public import proofs.«01_k».proof.Proof.Reference.StepsSoft
public import proofs.«01_k».proof.Proof.Reference.StepsFirst
public import proofs.«01_k».proof.Proof.Reference.StepsSecond
public import proofs.«01_k».proof.Proof.Reference.StepsLast

@[expose] public section

noncomputable section

namespace Cert.ReferenceIdeal.Hand

open Cert.ReferenceIdeal Cert.ReferenceIdeal.Facts₀ Idealize.ShloMosaic Idealize.ShloMosaic.StableHlo Idealize.SL.Sem Cert.Math

variable (m : (ℓ : Loc nD τ sig) → Buf (Elt Ideal) ℓ) (d : Dev nD)

/-- The logits of the reference. -/
abbrev lg : Fin 8192 → Fin 16 → EReal := mat (At m d main_v2 : FVec Ideal S8192x16 .f32)

/-- The word of zero. -/
theorem lit_zero : Ideal.ofBits .f32 0x00000000#32 = 0 := by simp [Ideal.ofBits, Ideal.ieee]

/-- The room of an expert. -/
theorem lit_room : lit 0x44A00000#32 = ((1280 : ℝ) : EReal) := by
  simp [lit, Ideal.ofBits, Ideal.ieee, -EReal.coe_mul, -EReal.coe_neg]
  norm_num

/-- A comparison with a number in every row. -/
theorem olt_read (x : FVec Ideal S8192 .f32) (w : BitVec 32) (r : Fin 8192) :
    cmpf .olt x (rowConst w) (ix1 r) = BitVec.ofBool (decide (x (ix1 r) < lit w)) := rfl

theorem oeq_read (x : FVec Ideal S8192 .f32) (w : BitVec 32) (r : Fin 8192) :
    cmpf .oeq x (rowConst w) (ix1 r) = BitVec.ofBool (decide (x (ix1 r) = lit w)) := rfl

theorem val_v13 (r : Fin 8192) (e : Fin 16) : (At m d main_v13 : FVec Ideal S8192x16 .f32) (ix2 r e) = soft (lg m d) r e := by
  rw [step_v13]
  exact soft_read _ r e

theorem mat_v13 : mat (At m d main_v13 : FVec Ideal S8192x16 .f32) = soft (lg m d) := by
  funext r e
  exact val_v13 m d r e

theorem val_values0 (r : Fin 8192) : (At m d main_values : FVec Ideal S8192x2 .f32) (ix2 r 0) = soft (lg m d) r (fst (soft (lg m d) r)) := by
  rw [step_values, topValues_read, mat_v13]
  rfl

theorem val_values1 (r : Fin 8192) : (At m d main_values : FVec Ideal S8192x2 .f32) (ix2 r 1) = soft (lg m d) r (snd (soft (lg m d) r)) := by
  rw [step_values, topValues_read, mat_v13]
  rfl

theorem val_v24 (r : Fin 8192) : (At m d main_v24 : IVec S8192 32) (ix1 r) = BitVec.ofNat 32 (fst (soft (lg m d) r)).val := by
  rw [step_v24, colFst_read, step_indices, topIndices_read, mat_v13]
  rfl

theorem val_v76 (r : Fin 8192) : (At m d main_v76 : IVec S8192 32) (ix1 r) = BitVec.ofNat 32 (snd (soft (lg m d) r)).val := by
  rw [step_v76, colSnd_read, step_indices, topIndices_read, mat_v13]
  rfl

theorem val_w1 (r : Fin 8192) : colFst (At m d main_v19 : FVec Ideal S8192x2 .f32) (ix1 r) = w1 (soft (lg m d)) r := by
  rw [colFst_read, step_v19, weight_read, val_values0, val_values1]
  rfl

theorem val_w2 (r : Fin 8192) : colSnd (At m d main_v19 : FVec Ideal S8192x2 .f32) (ix1 r) = w2 (soft (lg m d)) r := by
  rw [colSnd_read, step_v19, weight_read, val_values0, val_values1]
  rfl

/-- At first every expert has room. -/
theorem val_v33 (r : Fin 8192) : (At m d main_v33 : IVec S8192 1) (ix1 r) = 1#1 := by
  rw [step_v33]
  show Ideal.cmp .olt (Host.gather _ (expertConst 0x00000000#32) _ (ix1 r)) (lit 0x44A00000#32) = 1#1
  have hg := gather_vec (expertConst 0x00000000#32) (col (wrap 16#32 (At m d main_v24 : IVec S8192 32)))
    (fun r => fst (soft (lg m d) r)) (col_read 16#32 _ _ (val_v24 m d)) r
  have h : Ideal.cmp .olt (lit 0x00000000#32) (lit 0x44A00000#32) = 1#1 := by
    show BitVec.ofBool (decide ((lit 0x00000000#32 : EReal) < lit 0x44A00000#32)) = 1#1
    rw [decide_eq_true]
    · rfl
    · rw [lit_room, show lit 0x00000000#32 = ((0 : ℝ) : EReal) from lit_zero]
      exact EReal.coe_lt_coe_iff.2 (by norm_num)
  exact (congrArg (fun t => Ideal.cmp .olt t (lit 0x44A00000#32)) hg).trans h

/-- How many rows take each expert as their best. -/
theorem val_v43 (e : Fin 16) : (At m d main_v43 : FVec Ideal S16 .f32) (ix1 e) = cnt (soft (lg m d)) e := by
  rw [step_v43]
  show (lit 0x00000000#32 + Host.scatterAdd _ (expertConst 0x00000000#32) _ _ (ix1 e) : EReal) = _
  have hs := scatterAdd_vec (expertConst 0x00000000#32) (col (wrap 16#32 (At m d main_v24 : IVec S8192 32)))
    (uitofp .f32 (At m d main_v33 : IVec S8192 1)) (fun r => fst (soft (lg m d) r)) (col_read 16#32 _ _ (val_v24 m d)) e
  refine (congrArg (fun t : EReal => lit 0x00000000#32 + t) hs).trans ?_
  show (lit 0x00000000#32 + (lit 0x00000000#32 + _) : EReal) = _
  rw [show lit 0x00000000#32 = 0 from lit_zero, zero_add, zero_add]
  unfold cnt
  refine Finset.sum_congr rfl fun r _ => ?_
  refine if_congr Iff.rfl ?_ rfl
  show ((((At m d main_v33 : IVec S8192 1) (ix1 r)).toNat : ℝ) : EReal) = 1
  rw [val_v33]
  simp

theorem val_v60 (r : Fin 8192) : (At m d main_v60 : FVec Ideal S8192 .f32) (ix1 r) = w1 (soft (lg m d)) r := by
  rw [step_v60]
  show Scalar.select ((At m d main_v33 : IVec S8192 1) (ix1 r)) (colFst (At m d main_v19 : FVec Ideal S8192x2 .f32) (ix1 r)) _ = _
  rw [val_v33, val_w1]
  rfl

/-- Each row's best expert has the first weight. -/
theorem val_v74 (r : Fin 8192) (e : Fin 16) : (At m d main_v74 : FVec Ideal S8192x16 .f32) (ix2 r e)
    = if fst (soft (lg m d) r) = e then w1 (soft (lg m d)) r else 0 := by
  rw [step_v74, step_v73]
  refine (scatter_mat (α := EReal) _ _ _ (fun r => fst (soft (lg m d) r)) (fun i => (pair_read0 _ _ i).trans (iota_read i))
    (fun i => (pair_read1 _ _ i).trans (col_read 16#32 _ _ (val_v24 m d) i)) r e).trans ?_
  exact if_congr Iff.rfl (val_v60 m d r) lit_zero

/-- The second best expert of a row has room. -/
theorem val_v85 (r : Fin 8192) : (At m d main_v85 : IVec S8192 1) (ix1 r) = if Keep (soft (lg m d)) r then 1#1 else 0#1 := by
  rw [step_v85, olt_read]
  have hg := gather_vec (At m d main_v43 : FVec Ideal S16 .f32) (col (wrap 16#32 (At m d main_v76 : IVec S8192 32)))
    (fun r => snd (soft (lg m d) r)) (col_read 16#32 _ _ (val_v76 m d)) r
  refine (congrArg (fun t : EReal => BitVec.ofBool (decide (t < lit 0x44A00000#32))) (hg.trans (val_v43 m d _))).trans ?_
  show BitVec.ofBool (decide (Keep (soft (lg m d)) r)) = _
  by_cases h : Keep (soft (lg m d)) r
  · rw [if_pos h, decide_eq_true h]; rfl
  · rw [if_neg h, decide_eq_false h]; rfl

theorem val_v112 (r : Fin 8192) : (At m d main_v112 : FVec Ideal S8192 .f32) (ix1 r)
    = if Keep (soft (lg m d)) r then w2 (soft (lg m d)) r else 0 := by
  rw [step_v112, step_v108]
  show Scalar.select ((At m d main_v85 : IVec S8192 1) (ix1 r)) (colSnd (At m d main_v19 : FVec Ideal S8192x2 .f32) (ix1 r))
    (Host.gather _ (At m d main_v74 : FVec Ideal S8192x16 .f32) _ (ix1 r)) = _
  have hg : Host.gather gather_S8192x16_S8192x2_S8192_n_01_n_n_01_1_11 (At m d main_v74 : FVec Ideal S8192x16 .f32)
      (pair (col (wrap 8192#32 (iotaInDim S8192 32 0))) (col (wrap 16#32 (At m d main_v76 : IVec S8192 32)))) (ix1 r) = (0 : EReal) := by
    refine (gather_mat (α := EReal) _ _ (fun r => snd (soft (lg m d) r)) (fun i => (pair_read0 _ _ i).trans (iota_read i))
      (fun i => (pair_read1 _ _ i).trans (col_read 16#32 _ _ (val_v76 m d) i)) r).trans ?_
    exact (val_v74 m d r _).trans (if_neg fun h => snd_ne_fst _ h.symm)
  rw [val_v85, val_w2, hg]
  by_cases h : Keep (soft (lg m d)) r
  · simp only [if_pos h]; rfl
  · simp only [if_neg h]; rfl

/-- The weights before they are normalised again. -/
theorem val_v126 (r : Fin 8192) (e : Fin 16) : (At m d main_v126 : FVec Ideal S8192x16 .f32) (ix2 r e) = dm (soft (lg m d)) r e := by
  rw [step_v126, step_v125]
  refine (scatter_mat (α := EReal) _ _ _ (fun r => snd (soft (lg m d) r)) (fun i => (pair_read0 _ _ i).trans (iota_read i))
    (fun i => (pair_read1 _ _ i).trans (col_read 16#32 _ _ (val_v76 m d) i)) r e).trans ?_
  refine (if_congr Iff.rfl (val_v112 m d r) (val_v74 m d r e)).trans ?_
  unfold dm
  by_cases hs : snd (soft (lg m d) r) = e
  · have hf : fst (soft (lg m d) r) ≠ e := fun h => snd_ne_fst _ (hs.trans h.symm)
    simp only [if_pos hs, if_neg hf, zero_add]
  · simp only [if_neg hs, ite_self, add_zero]

theorem mat_v126 : mat (At m d main_v126 : FVec Ideal S8192x16 .f32) = dm (soft (lg m d)) := by
  funext r e
  exact val_v126 m d r e

/-- No row is empty, so the rule for empty rows changes nothing. -/
theorem val_v141 (hs : ∀ r, (∑ k, dm (soft (lg m d)) r k) ≠ 0) (r : Fin 8192) (e : Fin 16) :
    (At m d main_v141 : FVec Ideal S8192x16 .f32) (ix2 r e) = dm (soft (lg m d)) r e := by
  rw [step_v141]
  show Scalar.select (IntOp.andi (spread (At m d main_v129 : IVec S8192 1) (ix2 r e)) ((At m d main_v139 : IVec S8192x16 1) (ix2 r e))) _
    ((At m d main_v126 : FVec Ideal S8192x16 .f32) (ix2 r e)) = _
  have h : (At m d main_v129 : IVec S8192 1) (ix1 r) = 0#1 := by
    rw [step_v129, oeq_read, decide_eq_false]
    · rfl
    · rw [rowSum_read, show lit 0x00000000#32 = 0 from lit_zero]
      rw [mat_v126]
      exact hs r
  rw [spread_read, h, val_v126, show ∀ b : BitVec 1, IntOp.andi 0#1 b = 0#1 by decide]
  rfl

/-- The dispatch weights. -/
theorem val_v147 (hs : ∀ r, (∑ k, dm (soft (lg m d)) r k) ≠ 0) (r : Fin 8192) (e : Fin 16) :
    (At m d main_v147 : FVec Ideal S8192x16 .f32) (ix2 r e) = nd (soft (lg m d)) r e := by
  have h : mat (At m d main_v141 : FVec Ideal S8192x16 .f32) = dm (soft (lg m d)) := by
    funext r e
    exact val_v141 m d hs r e
  rw [step_v147, nd_read, h]
  rfl

/-- The loss. -/
theorem val_v161 (hs : ∀ r, (∑ k, dm (soft (lg m d)) r k) ≠ 0) (i : S_.Idx) :
    (At m d main_v161 : FVec Ideal S_ .f32) i = loss (lg m d) (nd (soft (lg m d))) := by
  rw [step_v161, loss_read]
  refine congrArg (loss (lg m d)) ?_
  funext r e
  exact val_v147 m d hs r e

end Cert.ReferenceIdeal.Hand
-- ==== Proof.Math.Positive.lean ====
/- With real logits every softmax entry is a positive real, and every row has a positive dispatch weight. -/
module

public import proofs.«01_k».proof.Proof.Math.Spec

@[expose] public section

noncomputable section

namespace Cert.Math

open Idealize.ShloMosaic

/-- Every entry is a real number. -/
def AllReal (l : Fin 8192 → Fin 16 → EReal) : Prop := ∀ r e, ∃ x : ℝ, l r e = (x : EReal)

/-- Every entry is a positive real number. -/
def AllPos (p : Fin 8192 → Fin 16 → EReal) : Prop := ∀ r e, ∃ x : ℝ, 0 < x ∧ p r e = (x : EReal)

/-- A sum of real numbers among the extended reals. -/
theorem sum_coe {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

/-- A quotient of real numbers, the divisor not zero. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The greatest of finitely many real numbers, one at least, is real. -/
theorem fold_max_real (f : Fin 16 → ℝ) : ∃ x : ℝ, (Finset.univ.fold max (⊥ : EReal) fun k => (f k : EReal)) = x := by
  obtain ⟨k, _, hk⟩ := Finset.exists_max_image (Finset.univ : Finset (Fin 16)) f ⟨0, Finset.mem_univ _⟩
  refine ⟨f k, le_antisymm ?_ ?_⟩
  · exact (Finset.fold_max_le _).2 ⟨bot_le, fun j hj => EReal.coe_le_coe_iff.2 (hk j hj)⟩
  · exact Finset.le_fold_max _ |>.2 (Or.inr ⟨k, Finset.mem_univ _, le_rfl⟩)

/-- The softmax of real logits is positive. -/
theorem soft_pos {l : Fin 8192 → Fin 16 → EReal} (h : AllReal l) : AllPos (soft l) := by
  intro r e
  choose f hf using h r
  have hl : l r = fun k => (f k : EReal) := funext hf
  obtain ⟨M, hM⟩ := fold_max_real f
  have hx : ∀ k, expo l r k = ((Real.exp (f k - M) : ℝ) : EReal) := fun k => by
    unfold expo rowMax
    rw [hl, hM, ← EReal.coe_sub]
    rfl
  have hs : 0 < ∑ k, Real.exp (f k - M) := Finset.sum_pos (fun k _ => Real.exp_pos _) ⟨0, Finset.mem_univ _⟩
  refine ⟨Real.exp (f e - M) / ∑ k, Real.exp (f k - M), div_pos (Real.exp_pos _) hs, ?_⟩
  unfold soft
  simp only [hx]
  rw [sum_coe, div_coe _ _ hs.ne']

/-- The word of minus one. -/
theorem lit_neg_one : lit 0xBF800000#32 = ((-1 : ℝ) : EReal) := by
  simp [lit, Ideal.ofBits, Ideal.ieee, -EReal.coe_mul, -EReal.coe_neg]
  try norm_num

/-- A positive entry is above the mark of a struck-out one. -/
theorem mark_lt {p : Fin 8192 → Fin 16 → EReal} (h : AllPos p) (r : Fin 8192) (e : Fin 16) : lit 0xBF800000#32 < p r e := by
  obtain ⟨x, hx, hp⟩ := h r e
  rw [lit_neg_one, hp]
  exact EReal.coe_lt_coe_iff.2 (by linarith)

/-- The small number is a positive real. -/
theorem eps_pos : ∃ x : ℝ, 0 < x ∧ eps = (x : EReal) := by
  refine ⟨_, ?_, by simp [eps, lit, Ideal.ofBits, Ideal.ieee, -EReal.coe_mul, -EReal.coe_neg]; rfl⟩
  positivity

/-- Every row of dispatch weights has a positive sum. -/
theorem dm_sum_ne_zero {p : Fin 8192 → Fin 16 → EReal} (h : AllPos p) (r : Fin 8192) : (∑ k, dm p r k) ≠ 0 := by
  obtain ⟨a, ha, hpa⟩ := h r (fst (p r))
  obtain ⟨b, hb, hpb⟩ := h r (snd (p r))
  obtain ⟨c, hc, hpc⟩ := eps_pos
  have hw : wsum p r = ((a + b + c : ℝ) : EReal) := by
    unfold wsum
    rw [hpa, hpb, hpc, EReal.coe_add, EReal.coe_add]
  have hw1 : w1 p r = ((a / (a + b + c) : ℝ) : EReal) := by
    unfold w1
    rw [hpa, hw, div_coe _ _ (by positivity)]
  have hw2 : w2 p r = ((b / (a + b + c) : ℝ) : EReal) := by
    unfold w2
    rw [hpb, hw, div_coe _ _ (by positivity)]
  have h1 : (0 : EReal) < w1 p r := by
    rw [hw1]
    exact EReal.coe_lt_coe_iff.2 (by positivity)
  have h2 : (0 : EReal) ≤ w2 p r := by
    rw [hw2]
    exact EReal.coe_le_coe_iff.2 (by positivity)
  have hn : ∀ k, 0 ≤ dm p r k := fun k => by
    unfold dm
    refine add_nonneg ?_ ?_
    · split
      · exact h1.le
      · exact le_rfl
    · split
      · split
        · exact h2
        · exact le_rfl
      · exact le_rfl
  refine ne_of_gt (lt_of_lt_of_le h1 ?_)
  refine le_trans ?_ (Finset.single_le_sum (fun k _ => hn k) (Finset.mem_univ (fst (p r))))
  unfold dm
  rw [if_pos rfl]
  refine le_add_of_nonneg_right ?_
  split
  · split
    · exact h2
    · exact le_rfl
  · exact le_rfl

end Cert.Math
-- ==== Proof.Math.Finite.lean ====
/- Sums of products of real numbers are real. -/
module

public import proofs.«01_k».proof.Proof.Math.Positive
public import proofs.«01_k».proof.Pre_finite
public import Idealize.ShloMosaic.Lib.Pointwise

@[expose] public section

noncomputable section

namespace Cert.Math

open Idealize.ShloMosaic

/-- An inner product of real vectors is real. -/
theorem inner_real {n : Nat} {f g : Fin n → EReal} (hf : ∀ k, ∃ x : ℝ, f k = (x : EReal)) (hg : ∀ k, ∃ x : ℝ, g k = (x : EReal)) :
    ∃ x : ℝ, (∑ k, f k * g k) = (x : EReal) := by
  choose a ha using hf
  choose b hb using hg
  refine ⟨∑ k, a k * b k, ?_⟩
  simp only [ha, hb, ← EReal.coe_mul]
  exact sum_coe _ _

/-- The word of plus infinity. -/
theorem lit_top : Ideal.ofBits .f32 0x7F800000#32 = ⊤ := by
  simp [Ideal.ofBits, Ideal.ieee]

/-- A number whose absolute value is below plus infinity is real. -/
theorem real_of_abs (x : EReal) (h : max x (-x) < ⊤) : ∃ y : ℝ, x = (y : EReal) := by
  induction x with
  | bot => simp at h
  | top => simp at h
  | coe y => exact ⟨y, rfl⟩

variable [Cert.Pre_finite.Facts] {a : FVec Ideal Cert.Pre_finite.S2x4096x2048 .f32} {b : FVec Ideal Cert.Pre_finite.S16x2048 .f32}

/-- The precondition's test at an element: the tokens are real. -/
theorem tokens_real (h : (Cert.Pre_finite.fn (F := Ideal) a b).1 = fun _ => 1#1) (i : Cert.Pre_finite.S2x4096x2048.Idx) :
    ∃ y : ℝ, a i = (y : EReal) := by
  have hi : BitVec.ofBool (decide (max (a i) (-(a i)) < lit 0x7F800000#32)) = 1#1 := congrFun h i
  refine real_of_abs _ ?_
  rw [← lit_top]
  by_contra hn
  rw [decide_eq_false hn] at hi
  exact absurd hi (by decide)

/-- The precondition's test at an element: the weights are real. -/
theorem weights_real (h : (Cert.Pre_finite.fn (F := Ideal) a b).2 = fun _ => 1#1) (i : Cert.Pre_finite.S16x2048.Idx) :
    ∃ y : ℝ, b i = (y : EReal) := by
  have hi : BitVec.ofBool (decide (max (b i) (-(b i)) < lit 0x7F800000#32)) = 1#1 := congrFun h i
  refine real_of_abs _ ?_
  rw [← lit_top]
  by_contra hn
  rw [decide_eq_false hn] at hi
  exact absurd hi (by decide)

end Cert.Math
-- ==== Proof.Agree.lean ====
/- From arguments that agree the two programs have the same logits, which are real when the arguments are. -/
module

public import proofs.«01_k».proof.Proof.KernelIdeal.Logits
public import proofs.«01_k».proof.Proof.KernelIdeal.Value
public import proofs.«01_k».proof.Proof.Reference.Value
public import proofs.«01_k».proof.Proof.Math.Finite

@[expose] public section

noncomputable section

namespace Cert.Agree

open Idealize.ShloMosaic Idealize.SL.Sem Cert.Math

/-- The reference's product, read at an element. -/
theorem dot_read (x : FVec Ideal Cert.ReferenceIdeal.S8192x2048 .f32) (W : FVec Ideal Cert.ReferenceIdeal.S2048x16 .f32) (r : Fin 8192) (e : Fin 16) :
    (Host.dotGeneral (F := Ideal) (φ₁ := .f32) (φ₂ := .f32) Cert.ReferenceIdeal.dot_S8192x2048_S2048x16_S8192x16_1_0_0_1_n_n none x W
      : FVec Ideal Cert.ReferenceIdeal.S8192x16 .f32) (ix2 r e) = ∑ k : Fin 2048, x (ix2 r k) * W (ix2 k e) := by
  pointwise

/-- Two matrices with the same elements are the same. -/
theorem mat_ext {x y : FVec Ideal Cert.KernelIdeal.S8192x16 .f32} (h : ∀ r e, x (ix2 r e) = y (ix2 r e)) : x = y := by
  funext i
  have hi : i = ix2 (i 0 : Fin 8192) (i 1 : Fin 16) := by
    funext k
    match k with
    | ⟨0, _⟩ => rfl
    | ⟨1, _⟩ => rfl
  rw [hi]
  exact h _ _

/-- An element of the product of the flattened tokens by the turned weights. -/
def prodAt (a : FVec Ideal Cert.KernelIdeal.S2x4096x2048 .f32) (b : FVec Ideal Cert.KernelIdeal.S16x2048 .f32) (r : Fin 8192) (e : Fin 16) : EReal :=
  ∑ k : Fin 2048,
    (shapeCast (α := Ideal .f32) Cert.KernelIdeal.S8192x2048 a Cert.KernelIdeal.Facts₀.shapeCasts_S2x4096x2048_S8192x2048 (ix2 r k) : EReal)
      * (transpose (α := Ideal .f32) Cert.KernelIdeal.S2048x16 [1, 0] b Cert.KernelIdeal.Facts₀.transposes_S16x2048_S2048x16_1_0 (ix2 k e) : EReal)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The logits of the two programs. -/
theorem logits_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.KernelIdeal.Hand.rows (Cert.KernelIdeal.Hand.L m c) = Cert.ReferenceIdeal.Hand.lg m' c := by
  funext r e
  refine ((congrFun (Cert.KernelIdeal.Hand.L_eq m c) (ix2 r e)).trans (Cert.KernelIdeal.Hand.logits_apply c _ _ r e)).trans ?_
  refine Eq.symm ((congrFun (Cert.ReferenceIdeal.Hand.step_v2 m' c) (ix2 r e)).trans ((dot_read _ _ r e).trans ?_))
  exact congrArg₂ (fun a b => prodAt a b r e) h0 h1

/-- The logits are real. -/
theorem logits_real [Cert.Pre_finite.Facts]
    (h : (Cert.Pre_finite.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))).1 = (fun _ => 1#1)
      ∧ (Cert.Pre_finite.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))).2 = (fun _ => 1#1)) :
    AllReal (Cert.KernelIdeal.Hand.rows (Cert.KernelIdeal.Hand.L m c)) := by
  intro r e
  obtain ⟨x, hx⟩ := inner_real
    (f := fun k : Fin 2048 => (shapeCast (α := Ideal .f32) Cert.KernelIdeal.S8192x2048 (m ((c.tc : Thread Cert.KernelIdeal.nD Cert.KernelIdeal.τ).loc Cert.KernelIdeal.main_arg0) : FVec Ideal Cert.KernelIdeal.S2x4096x2048 .f32)
        Cert.KernelIdeal.Facts₀.shapeCasts_S2x4096x2048_S8192x2048 (ix2 r k) : EReal))
    (g := fun k : Fin 2048 => (transpose (α := Ideal .f32) Cert.KernelIdeal.S2048x16 [1, 0] (m ((c.tc : Thread Cert.KernelIdeal.nD Cert.KernelIdeal.τ).loc Cert.KernelIdeal.main_arg1) : FVec Ideal Cert.KernelIdeal.S16x2048 .f32)
        Cert.KernelIdeal.Facts₀.transposes_S16x2048_S2048x16_1_0 (ix2 k e) : EReal))
    (fun k => tokens_real h.1 _) (fun k => weights_real h.2 _)
  exact ⟨x, ((congrFun (Cert.KernelIdeal.Hand.L_eq m c) (ix2 r e)).trans (Cert.KernelIdeal.Hand.logits_apply c _ _ r e)).trans hx⟩

section
variable {m m' c}
variable (hl : Cert.KernelIdeal.Hand.rows (Cert.KernelIdeal.Hand.L m c) = Cert.ReferenceIdeal.Hand.lg m' c)
  (hr : AllReal (Cert.KernelIdeal.Hand.rows (Cert.KernelIdeal.Hand.L m c)))

/-- The weights by which the reference divides have a sum other than zero in every row. -/
theorem sums (hl : Cert.KernelIdeal.Hand.rows (Cert.KernelIdeal.Hand.L m c) = Cert.ReferenceIdeal.Hand.lg m' c)
    (hr : AllReal (Cert.KernelIdeal.Hand.rows (Cert.KernelIdeal.Hand.L m c))) (r : Fin 8192) :
    (∑ k, dm (soft (Cert.ReferenceIdeal.Hand.lg m' c)) r k) ≠ 0 :=
  dm_sum_ne_zero (soft_pos (hl ▸ hr)) r

include hl in
/-- The routing weights. -/
theorem result_rw : Cert.ReferenceIdeal.Hand.At m' c Cert.ReferenceIdeal.main_v13 = Cert.KernelIdeal.Hand.outRw (Cert.KernelIdeal.Hand.L m c) := by
  refine mat_ext fun r e => ?_
  exact (Cert.ReferenceIdeal.Hand.val_v13 m' c r e).trans
    ((congrArg (fun l => soft l r e) hl.symm).trans (Cert.KernelIdeal.Hand.outRw_apply _ r e).symm)

include hl hr in
/-- The normalised dispatch. -/
theorem result_nd : Cert.ReferenceIdeal.Hand.At m' c Cert.ReferenceIdeal.main_v147 = Cert.KernelIdeal.Hand.outNd (Cert.KernelIdeal.Hand.L m c) := by
  refine mat_ext fun r e => ?_
  exact (Cert.ReferenceIdeal.Hand.val_v147 m' c (sums hl hr) r e).trans
    ((congrArg (fun l => nd (soft l) r e) hl.symm).trans (Cert.KernelIdeal.Hand.outNd_apply _ (mark_lt (soft_pos hr)) r e).symm)

include hl hr in
/-- The loss. -/
theorem result_loss : Cert.ReferenceIdeal.Hand.At m' c Cert.ReferenceIdeal.main_v161
    = shapeCast Cert.KernelIdeal.S_ (Cert.KernelIdeal.Hand.outLoss (Cert.KernelIdeal.Hand.L m c)) Cert.KernelIdeal.Facts₀.shapeCasts_S1x1_S_ := by
  refine funext fun i => ?_
  exact (Cert.ReferenceIdeal.Hand.val_v161 m' c (sums hl hr) i).trans
    ((congrArg (fun l => loss l (nd (soft l))) hl.symm).trans (Cert.KernelIdeal.Hand.outLoss_apply _ (mark_lt (soft_pos hr)) i).symm)

end

end Cert.Agree
-- ==== Proof.lean ====
/- The claims, assembled. -/
module

public import proofs.«01_k».proof.Defs
public import proofs.«01_k».proof.Proof.KernelBits
public import proofs.«01_k».proof.Proof.KernelIdeal.Run
public import proofs.«01_k».proof.Proof.Reference.Ops
public import proofs.«01_k».proof.Proof.Agree

@[expose] public section

noncomputable section

namespace Cert.Proof

open Idealize.ShloMosaic Idealize.SL.Sem

/-- The side conditions of the precondition. -/
theorem finite_facts : Cert.Pre_finite.Facts := ⟨by decide, by decide⟩

/-- The kernel and the reference, over the extended reals and from finite arguments, have the same three results. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  haveI := finite_facts
  intro m g m' g' hpre hargs
  have hl := fun c => Cert.Agree.logits_agree m m' c (hargs c).1 (hargs c).2
  have hr := fun c => Cert.Agree.logits_real m c (hpre c)
  refine ⟨fun c => Cert.KernelIdeal.Hand.outRw (Cert.KernelIdeal.Hand.L m c), fun c => Cert.KernelIdeal.Hand.outNd (Cert.KernelIdeal.Hand.L m c),
    fun c => shapeCast Cert.KernelIdeal.S_ (Cert.KernelIdeal.Hand.outLoss (Cert.KernelIdeal.Hand.L m c)) Cert.KernelIdeal.Facts₀.shapeCasts_S1x1_S_,
    Cert.KernelIdeal.Hand.values m g, ?_⟩
  exact θ_run_mono (Cert.ReferenceIdeal.Hand.run m' g') fun r h c =>
    ⟨(h c Cert.ReferenceIdeal.main_v13).trans (Cert.Agree.result_rw (hl c)),
     (h c Cert.ReferenceIdeal.main_v147).trans (Cert.Agree.result_nd (hl c) (hr c)),
     (h c Cert.ReferenceIdeal.main_v161).trans (Cert.Agree.result_loss (hl c) (hr c)),
     (h c Cert.ReferenceIdeal.main_arg0).trans (Cert.ReferenceIdeal.Hand.out_arg0 m' c),
     (h c Cert.ReferenceIdeal.main_arg1).trans (Cert.ReferenceIdeal.Hand.out_arg1 m' c)⟩

/-- Every claim. -/
theorem claim : Cert.Claim :=
  ⟨Cert.Kernel.Gen.facts, Cert.KernelIdeal.Gen.facts, Cert.ReferenceIdeal.Gen.facts, finite_facts,
    fun m g _ => Cert.Kernel.Hand.frame m g,
    fun m g _ => Cert.KernelIdeal.Hand.frame m g,
    fun m g _ => Cert.KernelIdeal.Hand.frame m g,
    fun m g _ => Cert.ReferenceIdeal.Hand.frame m g,
    fun m g _ => Cert.ReferenceIdeal.Hand.frame m g,
    trivial,
    algebraic⟩

end Cert.Proof

end
